-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range_KernelIdeal [hPre_finite_in_range_KernelIdeal : Cert.Pre_finite_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range_ReferenceIdeal [hPre_finite_in_range_ReferenceIdeal : Cert.Pre_finite_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range_KernelIdeal [hKernelIdeal : Cert.KernelIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range_ReferenceIdeal [hReferenceIdeal : Cert.ReferenceIdeal.Facts] [hPre_finite_in_range_ReferenceIdeal : Cert.Pre_finite_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_in_range_KernelIdeal [hKernelIdeal : Cert.KernelIdeal.Facts] [hReferenceIdeal : Cert.ReferenceIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_in_range_KernelIdeal : Cert.Pre_finite_in_range_KernelIdeal.Facts) (hPre_finite_in_range_ReferenceIdeal : Cert.Pre_finite_in_range_ReferenceIdeal.Facts),
    quiescent_Kernel (hKernel := hKernel)
    ∧ quiescent_KernelIdeal (hKernelIdeal := hKernelIdeal)
    ∧ quiescent_KernelIdeal_pre_finite_in_range_KernelIdeal (hKernelIdeal := hKernelIdeal) (hPre_finite_in_range_KernelIdeal := hPre_finite_in_range_KernelIdeal)
    ∧ quiescent_ReferenceIdeal (hReferenceIdeal := hReferenceIdeal)
    ∧ quiescent_ReferenceIdeal_pre_finite_in_range_ReferenceIdeal (hReferenceIdeal := hReferenceIdeal) (hPre_finite_in_range_ReferenceIdeal := hPre_finite_in_range_ReferenceIdeal)
    ∧ preserves_Kernel_KernelIdeal
    ∧ algebraic_KernelIdeal_ReferenceIdeal_pre_finite_in_range_KernelIdeal (hKernelIdeal := hKernelIdeal) (hReferenceIdeal := hReferenceIdeal) (hPre_finite_in_range_KernelIdeal := hPre_finite_in_range_KernelIdeal)
-- ==== Pre_finite_in_range_KernelIdeal.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512x2 : S_.BroadcastsInDim S512x2 (![] : Fin 0 → Fin S512x2.rank)

variable [Facts]

def fn {F : FTy → Type} [FloatOps F] (main_arg0 : FVec F S512x256 .bf16) (main_arg1 : FVec F S256x64 .bf16) (main_arg2 : IVec S512x2 32) (main_arg3 : FVec F S4x256x512 .bf16) : IVec S512x2 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .bf16 := Host.absf main_arg1
  let main_cst_0 : FVec F S_ .bf16 := constant S_ .bf16 0x7F80#16
  let main_v5 : FVec F S256x64 .bf16 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 64#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_v14 : IVec S512x2 1 := broadcastInDim S512x2 ![] bcast_S_S512x2 main_v8
  let main_v15 : IVec S512x2 1 := andi main_v14 main_v13
  main_v15
-- ==== Pre_finite_in_range_ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512x2 : S_.BroadcastsInDim S512x2 (![] : Fin 0 → Fin S512x2.rank)

variable [Facts]

def fn {F : FTy → Type} [FloatOps F] (main_arg0 : FVec F S512x256 .bf16) (main_arg1 : FVec F S256x64 .bf16) (main_arg2 : IVec S512x2 32) (main_arg3 : FVec F S64x256x512 .bf16) : IVec S512x2 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .bf16 := Host.absf main_arg1
  let main_cst_0 : FVec F S_ .bf16 := constant S_ .bf16 0x7F80#16
  let main_v5 : FVec F S256x64 .bf16 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 64#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_v14 : IVec S512x2 1 := broadcastInDim S512x2 ![] bcast_S_S512x2 main_v8
  let main_v15 : IVec S512x2 1 := andi main_v14 main_v13
  main_v15
-- ==== Kernel.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S32x512 : Shape := ⟨2, ![32, 512]⟩
abbrev S512x512 : Shape := ⟨2, ![512, 512]⟩
abbrev S15x32x512 : Shape := ⟨3, ![15, 32, 512]⟩
abbrev S15 : Shape := ⟨1, ![15]⟩
abbrev S_ : Shape := ⟨0, ![]⟩
abbrev S512x64 : Shape := ⟨2, ![512, 64]⟩
abbrev S512 : Shape := ⟨1, ![512]⟩
abbrev S512x1 : Shape := ⟨2, ![512, 1]⟩
abbrev S64x4 : Shape := ⟨2, ![64, 4]⟩
abbrev S512x4 : Shape := ⟨2, ![512, 4]⟩
abbrev S1x256x512 : Shape := ⟨3, ![1, 256, 512]⟩
abbrev S256x512 : Shape := ⟨2, ![256, 512]⟩
abbrev S1 : Shape := ⟨1, ![1]⟩
abbrev S1x32x512 : Shape := ⟨3, ![1, 32, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S4x256x512, .bf16⟩
  | .hbm, ⟨4, _⟩ => ⟨S32x512, .f32⟩
  | .local _ .vmem, ⟨0, _⟩ => ⟨S512x256, .bf16⟩
  | .local _ .vmem, ⟨1, _⟩ => ⟨S256x64, .bf16⟩
  | .local _ .vmem, ⟨2, _⟩ => ⟨S512x2, .i32⟩
  | .local _ .vmem, ⟨3, _⟩ => ⟨S4x256x512, .bf16⟩
  | .local _ .vmem, ⟨4, _⟩ => ⟨S32x512, .f32⟩
  | .local _ .vmem, ⟨5, _⟩ => ⟨S512x512, .bf16⟩
  | .local _ .vmem, ⟨6, _⟩ => ⟨S15x32x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v268 : BitVec 32 := Scalar.addi v2 c1_i32_163
  let c16_i32_164 : BitVec 32 := 16#32
  let c0_i32_165 : BitVec 32 := 0#32
  let v269 : BitVec 1 := Scalar.cmpi .eq c16_i32_164 c0_i32_165
  let c1_i32_166 : BitVec 32 := 1#32
  let v270 : BitVec 32 := Scalar.select v269 c1_i32_166 c16_i32_164
  let v271 : BitVec 32 := Scalar.remsi v268 v270
  let c0_i32_168 : BitVec 32 := 0#32
  let v273 : BitVec 1 := Scalar.cmpi .slt v271 c0_i32_168
  let c0_i32_169 : BitVec 32 := 0#32
  let v274 : BitVec 1 := Scalar.cmpi .slt v270 c0_i32_169
  let v275 : BitVec 1 := Scalar.xori v273 v274
  let c0_i32_167 : BitVec 32 := 0#32
  let v272 : BitVec 1 := Scalar.cmpi .ne v271 c0_i32_167
  let v276 : BitVec 1 := Scalar.andi v275 v272
  let v277 : BitVec 32 := Scalar.addi v271 v270
  let v278 : BitVec 32 := Scalar.select v276 v277 v271
  let c32_i32 : BitVec 32 := 32#32
  let v279 : BitVec 32 := Scalar.muli v278 c32_i32
  let c0_i32_177 : BitVec 32 := 0#32
  ![v279.toNat, 0]
def k0_dev16 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_163 : BitVec 32 := 1#32
  let v268 : BitVec 32 := Scalar.addi v2 c1_i32_163
  let c16_i32_164 : BitVec 32 := 16#32
  let c0_i32_165 : BitVec 32 := 0#32
  let v269 : BitVec 1 := Scalar.cmpi .eq c16_i32_164 c0_i32_165
  let c1_i32_166 : BitVec 32 := 1#32
  let v270 : BitVec 32 := Scalar.select v269 c1_i32_166 c16_i32_164
  let v271 : BitVec 32 := Scalar.remsi v268 v270
  let c0_i32_168 : BitVec 32 := 0#32
  let v273 : BitVec 1 := Scalar.cmpi .slt v271 c0_i32_168
  let c0_i32_169 : BitVec 32 := 0#32
  let v274 : BitVec 1 := Scalar.cmpi .slt v270 c0_i32_169
  let v275 : BitVec 1 := Scalar.xori v273 v274
  let c0_i32_167 : BitVec 32 := 0#32
  let v272 : BitVec 1 := Scalar.cmpi .ne v271 c0_i32_167
  let v276 : BitVec 1 := Scalar.andi v275 v272
  let v277 : BitVec 32 := Scalar.addi v271 v270
  let v278 : BitVec 32 := Scalar.select v276 v277 v271
  let c1_i32_173 : BitVec 32 := 1#32
  let v280 : BitVec 32 := Scalar.muli v278 c1_i32_173
  let v281 : BitVec 32 := Scalar.addi c0_i32_174 v280
  v281.toNat
def k0_dev17 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_178 : BitVec 32 := 2#32
  let v289 : BitVec 32 := Scalar.addi v2 c2_i32_178
  let c16_i32_179 : BitVec 32 := 16#32
  let c0_i32_180 : BitVec 32 := 0#32
  let v290 : BitVec 1 := Scalar.cmpi .eq c16_i32_179 c0_i32_180
  let c1_i32_181 : BitVec 32 := 1#32
  let v291 : BitVec 32 := Scalar.select v290 c1_i32_181 c16_i32_179
  let v292 : BitVec 32 := Scalar.remsi v289 v291
  let c0_i32_183 : BitVec 32 := 0#32
  let v294 : BitVec 1 := Scalar.cmpi .slt v292 c0_i32_183
  let c0_i32_184 : BitVec 32 := 0#32
  let v295 : BitVec 1 := Scalar.cmpi .slt v291 c0_i32_184
  let v296 : BitVec 1 := Scalar.xori v294 v295
  let c0_i32_182 : BitVec 32 := 0#32
  let v293 : BitVec 1 := Scalar.cmpi .ne v292 c0_i32_182
  let v297 : BitVec 1 := Scalar.andi v296 v293
  let v298 : BitVec 32 := Scalar.addi v292 v291
  let v299 : BitVec 32 := Scalar.select v297 v298 v292
  let c1_i32_189 : BitVec 32 := 1#32
  let v301 : BitVec 32 := Scalar.muli v299 c1_i32_189
  let v302 : BitVec 32 := Scalar.addi c0_i32_190 v301
  v302.toNat
def k0_dev18 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_194 : BitVec 32 := 3#32
  let v310 : BitVec 32 := Scalar.addi v2 c3_i32_194
  let c16_i32_195 : BitVec 32 := 16#32
  let c0_i32_196 : BitVec 32 := 0#32
  let v311 : BitVec 1 := Scalar.cmpi .eq c16_i32_195 c0_i32_196
  let c1_i32_197 : BitVec 32 := 1#32
  let v312 : BitVec 32 := Scalar.select v311 c1_i32_197 c16_i32_195
  let v313 : BitVec 32 := Scalar.remsi v310 v312
  let c0_i32_199 : BitVec 32 := 0#32
  let v315 : BitVec 1 := Scalar.cmpi .slt v313 c0_i32_199
  let c0_i32_200 : BitVec 32 := 0#32
  let v316 : BitVec 1 := Scalar.cmpi .slt v312 c0_i32_200
  let v317 : BitVec 1 := Scalar.xori v315 v316
  let c0_i32_198 : BitVec 32 := 0#32
  let v314 : BitVec 1 := Scalar.cmpi .ne v313 c0_i32_198
  let v318 : BitVec 1 := Scalar.andi v317 v314
  let v319 : BitVec 32 := Scalar.addi v313 v312
  let v320 : BitVec 32 := Scalar.select v318 v319 v313
  let c1_i32_205 : BitVec 32 := 1#32
  let v322 : BitVec 32 := Scalar.muli v320 c1_i32_205
  let v323 : BitVec 32 := Scalar.addi c0_i32_206 v322
  v323.toNat
def k0_dev19 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_210 : BitVec 32 := 4#32
  let v331 : BitVec 32 := Scalar.addi v2 c4_i32_210
  let c16_i32_211 : BitVec 32 := 16#32
  let c0_i32_212 : BitVec 32 := 0#32
  let v332 : BitVec 1 := Scalar.cmpi .eq c16_i32_211 c0_i32_212
  let c1_i32_213 : BitVec 32 := 1#32
  let v333 : BitVec 32 := Scalar.select v332 c1_i32_213 c16_i32_211
  let v334 : BitVec 32 := Scalar.remsi v331 v333
  let c0_i32_215 : BitVec 32 := 0#32
  let v336 : BitVec 1 := Scalar.cmpi .slt v334 c0_i32_215
  let c0_i32_216 : BitVec 32 := 0#32
  let v337 : BitVec 1 := Scalar.cmpi .slt v333 c0_i32_216
  let v338 : BitVec 1 := Scalar.xori v336 v337
  let c0_i32_214 : BitVec 32 := 0#32
  let v335 : BitVec 1 := Scalar.cmpi .ne v334 c0_i32_214
  let v339 : BitVec 1 := Scalar.andi v338 v335
  let v340 : BitVec 32 := Scalar.addi v334 v333
  let v341 : BitVec 32 := Scalar.select v339 v340 v334
  let c1_i32_221 : BitVec 32 := 1#32
  let v343 : BitVec 32 := Scalar.muli v341 c1_i32_221
  let v344 : BitVec 32 := Scalar.addi c0_i32_222 v343
  v344.toNat
def k0_dev20 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_226 : BitVec 32 := 5#32
  let v352 : BitVec 32 := Scalar.addi v2 c5_i32_226
  let c16_i32_227 : BitVec 32 := 16#32
  let c0_i32_228 : BitVec 32 := 0#32
  let v353 : BitVec 1 := Scalar.cmpi .eq c16_i32_227 c0_i32_228
  let c1_i32_229 : BitVec 32 := 1#32
  let v354 : BitVec 32 := Scalar.select v353 c1_i32_229 c16_i32_227
  let v355 : BitVec 32 := Scalar.remsi v352 v354
  let c0_i32_231 : BitVec 32 := 0#32
  let v357 : BitVec 1 := Scalar.cmpi .slt v355 c0_i32_231
  let c0_i32_232 : BitVec 32 := 0#32
  let v358 : BitVec 1 := Scalar.cmpi .slt v354 c0_i32_232
  let v359 : BitVec 1 := Scalar.xori v357 v358
  let c0_i32_230 : BitVec 32 := 0#32
  let v356 : BitVec 1 := Scalar.cmpi .ne v355 c0_i32_230
  let v360 : BitVec 1 := Scalar.andi v359 v356
  let v361 : BitVec 32 := Scalar.addi v355 v354
  let v362 : BitVec 32 := Scalar.select v360 v361 v355
  let c1_i32_237 : BitVec 32 := 1#32
  let v364 : BitVec 32 := Scalar.muli v362 c1_i32_237
  let v365 : BitVec 32 := Scalar.addi c0_i32_238 v364
  v365.toNat
def k0_dev21 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_242 : BitVec 32 := 6#32
  let v373 : BitVec 32 := Scalar.addi v2 c6_i32_242
  let c16_i32_243 : BitVec 32 := 16#32
  let c0_i32_244 : BitVec 32 := 0#32
  let v374 : BitVec 1 := Scalar.cmpi .eq c16_i32_243 c0_i32_244
  let c1_i32_245 : BitVec 32 := 1#32
  let v375 : BitVec 32 := Scalar.select v374 c1_i32_245 c16_i32_243
  let v376 : BitVec 32 := Scalar.remsi v373 v375
  let c0_i32_247 : BitVec 32 := 0#32
  let v378 : BitVec 1 := Scalar.cmpi .slt v376 c0_i32_247
  let c0_i32_248 : BitVec 32 := 0#32
  let v379 : BitVec 1 := Scalar.cmpi .slt v375 c0_i32_248
  let v380 : BitVec 1 := Scalar.xori v378 v379
  let c0_i32_246 : BitVec 32 := 0#32
  let v377 : BitVec 1 := Scalar.cmpi .ne v376 c0_i32_246
  let v381 : BitVec 1 := Scalar.andi v380 v377
  let v382 : BitVec 32 := Scalar.addi v376 v375
  let v383 : BitVec 32 := Scalar.select v381 v382 v376
  let c1_i32_253 : BitVec 32 := 1#32
  let v385 : BitVec 32 := Scalar.muli v383 c1_i32_253
  let v386 : BitVec 32 := Scalar.addi c0_i32_254 v385
  v386.toNat
def k0_dev22 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_258 : BitVec 32 := 7#32
  let v394 : BitVec 32 := Scalar.addi v2 c7_i32_258
  let c16_i32_259 : BitVec 32 := 16#32
  let c0_i32_260 : BitVec 32 := 0#32
  let v395 : BitVec 1 := Scalar.cmpi .eq c16_i32_259 c0_i32_260
  let c1_i32_261 : BitVec 32 := 1#32
  let v396 : BitVec 32 := Scalar.select v395 c1_i32_261 c16_i32_259
  let v397 : BitVec 32 := Scalar.remsi v394 v396
  let c0_i32_263 : BitVec 32 := 0#32
  let v399 : BitVec 1 := Scalar.cmpi .slt v397 c0_i32_263
  let c0_i32_264 : BitVec 32 := 0#32
  let v400 : BitVec 1 := Scalar.cmpi .slt v396 c0_i32_264
  let v401 : BitVec 1 := Scalar.xori v399 v400
  let c0_i32_262 : BitVec 32 := 0#32
  let v398 : BitVec 1 := Scalar.cmpi .ne v397 c0_i32_262
  let v402 : BitVec 1 := Scalar.andi v401 v398
  let v403 : BitVec 32 := Scalar.addi v397 v396
  let v404 : BitVec 32 := Scalar.select v402 v403 v397
  let c1_i32_269 : BitVec 32 := 1#32
  let v406 : BitVec 32 := Scalar.muli v404 c1_i32_269
  let v407 : BitVec 32 := Scalar.addi c0_i32_270 v406
  v407.toNat
def k0_dev23 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_274 : BitVec 32 := 8#32
  let v415 : BitVec 32 := Scalar.addi v2 c8_i32_274
  let c16_i32_275 : BitVec 32 := 16#32
  let c0_i32_276 : BitVec 32 := 0#32
  let v416 : BitVec 1 := Scalar.cmpi .eq c16_i32_275 c0_i32_276
  let c1_i32_277 : BitVec 32 := 1#32
  let v417 : BitVec 32 := Scalar.select v416 c1_i32_277 c16_i32_275
  let v418 : BitVec 32 := Scalar.remsi v415 v417
  let c0_i32_279 : BitVec 32 := 0#32
  let v420 : BitVec 1 := Scalar.cmpi .slt v418 c0_i32_279
  let c0_i32_280 : BitVec 32 := 0#32
  let v421 : BitVec 1 := Scalar.cmpi .slt v417 c0_i32_280
  let v422 : BitVec 1 := Scalar.xori v420 v421
  let c0_i32_278 : BitVec 32 := 0#32
  let v419 : BitVec 1 := Scalar.cmpi .ne v418 c0_i32_278
  let v423 : BitVec 1 := Scalar.andi v422 v419
  let v424 : BitVec 32 := Scalar.addi v418 v417
  let v425 : BitVec 32 := Scalar.select v423 v424 v418
  let c1_i32_285 : BitVec 32 := 1#32
  let v427 : BitVec 32 := Scalar.muli v425 c1_i32_285
  let v428 : BitVec 32 := Scalar.addi c0_i32_286 v427
  v428.toNat
def k0_dev24 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_290 : BitVec 32 := 9#32
  let v436 : BitVec 32 := Scalar.addi v2 c9_i32_290
  let c16_i32_291 : BitVec 32 := 16#32
  let c0_i32_292 : BitVec 32 := 0#32
  let v437 : BitVec 1 := Scalar.cmpi .eq c16_i32_291 c0_i32_292
  let c1_i32_293 : BitVec 32 := 1#32
  let v438 : BitVec 32 := Scalar.select v437 c1_i32_293 c16_i32_291
  let v439 : BitVec 32 := Scalar.remsi v436 v438
  let c0_i32_295 : BitVec 32 := 0#32
  let v441 : BitVec 1 := Scalar.cmpi .slt v439 c0_i32_295
  let c0_i32_296 : BitVec 32 := 0#32
  let v442 : BitVec 1 := Scalar.cmpi .slt v438 c0_i32_296
  let v443 : BitVec 1 := Scalar.xori v441 v442
  let c0_i32_294 : BitVec 32 := 0#32
  let v440 : BitVec 1 := Scalar.cmpi .ne v439 c0_i32_294
  let v444 : BitVec 1 := Scalar.andi v443 v440
  let v445 : BitVec 32 := Scalar.addi v439 v438
  let v446 : BitVec 32 := Scalar.select v444 v445 v439
  let c1_i32_301 : BitVec 32 := 1#32
  let v448 : BitVec 32 := Scalar.muli v446 c1_i32_301
  let v449 : BitVec 32 := Scalar.addi c0_i32_302 v448
  v449.toNat
def k0_dev25 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_306 : BitVec 32 := 10#32
  let v457 : BitVec 32 := Scalar.addi v2 c10_i32_306
  let c16_i32_307 : BitVec 32 := 16#32
  let c0_i32_308 : BitVec 32 := 0#32
  let v458 : BitVec 1 := Scalar.cmpi .eq c16_i32_307 c0_i32_308
  let c1_i32_309 : BitVec 32 := 1#32
  let v459 : BitVec 32 := Scalar.select v458 c1_i32_309 c16_i32_307
  let v460 : BitVec 32 := Scalar.remsi v457 v459
  let c0_i32_311 : BitVec 32 := 0#32
  let v462 : BitVec 1 := Scalar.cmpi .slt v460 c0_i32_311
  let c0_i32_312 : BitVec 32 := 0#32
  let v463 : BitVec 1 := Scalar.cmpi .slt v459 c0_i32_312
  let v464 : BitVec 1 := Scalar.xori v462 v463
  let c0_i32_310 : BitVec 32 := 0#32
  let v461 : BitVec 1 := Scalar.cmpi .ne v460 c0_i32_310
  let v465 : BitVec 1 := Scalar.andi v464 v461
  let v466 : BitVec 32 := Scalar.addi v460 v459
  let v467 : BitVec 32 := Scalar.select v465 v466 v460
  let c1_i32_317 : BitVec 32 := 1#32
  let v469 : BitVec 32 := Scalar.muli v467 c1_i32_317
  let v470 : BitVec 32 := Scalar.addi c0_i32_318 v469
  v470.toNat
def k0_dev26 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_322 : BitVec 32 := 11#32
  let v478 : BitVec 32 := Scalar.addi v2 c11_i32_322
  let c16_i32_323 : BitVec 32 := 16#32
  let c0_i32_324 : BitVec 32 := 0#32
  let v479 : BitVec 1 := Scalar.cmpi .eq c16_i32_323 c0_i32_324
  let c1_i32_325 : BitVec 32 := 1#32
  let v480 : BitVec 32 := Scalar.select v479 c1_i32_325 c16_i32_323
  let v481 : BitVec 32 := Scalar.remsi v478 v480
  let c0_i32_327 : BitVec 32 := 0#32
  let v483 : BitVec 1 := Scalar.cmpi .slt v481 c0_i32_327
  let c0_i32_328 : BitVec 32 := 0#32
  let v484 : BitVec 1 := Scalar.cmpi .slt v480 c0_i32_328
  let v485 : BitVec 1 := Scalar.xori v483 v484
  let c0_i32_326 : BitVec 32 := 0#32
  let v482 : BitVec 1 := Scalar.cmpi .ne v481 c0_i32_326
  let v486 : BitVec 1 := Scalar.andi v485 v482
  let v487 : BitVec 32 := Scalar.addi v481 v480
  let v488 : BitVec 32 := Scalar.select v486 v487 v481
  let c1_i32_333 : BitVec 32 := 1#32
  let v490 : BitVec 32 := Scalar.muli v488 c1_i32_333
  let v491 : BitVec 32 := Scalar.addi c0_i32_334 v490
  v491.toNat
def k0_dev27 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_338 : BitVec 32 := 12#32
  let v499 : BitVec 32 := Scalar.addi v2 c12_i32_338
  let c16_i32_339 : BitVec 32 := 16#32
  let c0_i32_340 : BitVec 32 := 0#32
  let v500 : BitVec 1 := Scalar.cmpi .eq c16_i32_339 c0_i32_340
  let c1_i32_341 : BitVec 32 := 1#32
  let v501 : BitVec 32 := Scalar.select v500 c1_i32_341 c16_i32_339
  let v502 : BitVec 32 := Scalar.remsi v499 v501
  let c0_i32_343 : BitVec 32 := 0#32
  let v504 : BitVec 1 := Scalar.cmpi .slt v502 c0_i32_343
  let c0_i32_344 : BitVec 32 := 0#32
  let v505 : BitVec 1 := Scalar.cmpi .slt v501 c0_i32_344
  let v506 : BitVec 1 := Scalar.xori v504 v505
  let c0_i32_342 : BitVec 32 := 0#32
  let v503 : BitVec 1 := Scalar.cmpi .ne v502 c0_i32_342
  let v507 : BitVec 1 := Scalar.andi v506 v503
  let v508 : BitVec 32 := Scalar.addi v502 v501
  let v509 : BitVec 32 := Scalar.select v507 v508 v502
  let c1_i32_349 : BitVec 32 := 1#32
  let v511 : BitVec 32 := Scalar.muli v509 c1_i32_349
  let v512 : BitVec 32 := Scalar.addi c0_i32_350 v511
  v512.toNat
def k0_dev28 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_354 : BitVec 32 := 13#32
  let v520 : BitVec 32 := Scalar.addi v2 c13_i32_354
  let c16_i32_355 : BitVec 32 := 16#32
  let c0_i32_356 : BitVec 32 := 0#32
  let v521 : BitVec 1 := Scalar.cmpi .eq c16_i32_355 c0_i32_356
  let c1_i32_357 : BitVec 32 := 1#32
  let v522 : BitVec 32 := Scalar.select v521 c1_i32_357 c16_i32_355
  let v523 : BitVec 32 := Scalar.remsi v520 v522
  let c0_i32_359 : BitVec 32 := 0#32
  let v525 : BitVec 1 := Scalar.cmpi .slt v523 c0_i32_359
  let c0_i32_360 : BitVec 32 := 0#32
  let v526 : BitVec 1 := Scalar.cmpi .slt v522 c0_i32_360
  let v527 : BitVec 1 := Scalar.xori v525 v526
  let c0_i32_358 : BitVec 32 := 0#32
  let v524 : BitVec 1 := Scalar.cmpi .ne v523 c0_i32_358
  let v528 : BitVec 1 := Scalar.andi v527 v524
  let v529 : BitVec 32 := Scalar.addi v523 v522
  let v530 : BitVec 32 := Scalar.select v528 v529 v523
  let c1_i32_365 : BitVec 32 := 1#32
  let v532 : BitVec 32 := Scalar.muli v530 c1_i32_365
  let v533 : BitVec 32 := Scalar.addi c0_i32_366 v532
  v533.toNat
def k0_dev29 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_370 : BitVec 32 := 14#32
  let v541 : BitVec 32 := Scalar.addi v2 c14_i32_370
  let c16_i32_371 : BitVec 32 := 16#32
  let c0_i32_372 : BitVec 32 := 0#32
  let v542 : BitVec 1 := Scalar.cmpi .eq c16_i32_371 c0_i32_372
  let c1_i32_373 : BitVec 32 := 1#32
  let v543 : BitVec 32 := Scalar.select v542 c1_i32_373 c16_i32_371
  let v544 : BitVec 32 := Scalar.remsi v541 v543
  let c0_i32_375 : BitVec 32 := 0#32
  let v546 : BitVec 1 := Scalar.cmpi .slt v544 c0_i32_375
  let c0_i32_376 : BitVec 32 := 0#32
  let v547 : BitVec 1 := Scalar.cmpi .slt v543 c0_i32_376
  let v548 : BitVec 1 := Scalar.xori v546 v547
  let c0_i32_374 : BitVec 32 := 0#32
  let v545 : BitVec 1 := Scalar.cmpi .ne v544 c0_i32_374
  let v549 : BitVec 1 := Scalar.andi v548 v545
  let v550 : BitVec 32 := Scalar.addi v544 v543
  let v551 : BitVec 32 := Scalar.select v549 v550 v544
  let c1_i32_381 : BitVec 32 := 1#32
  let v553 : BitVec 32 := Scalar.muli v551 c1_i32_381
  let v554 : BitVec 32 := Scalar.addi c0_i32_382 v553
  v554.toNat
def k0_dev30 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_386 : BitVec 32 := 15#32
  let v562 : BitVec 32 := Scalar.addi v2 c15_i32_386
  let c16_i32_387 : BitVec 32 := 16#32
  let c0_i32_388 : BitVec 32 := 0#32
  let v563 : BitVec 1 := Scalar.cmpi .eq c16_i32_387 c0_i32_388
  let c1_i32_389 : BitVec 32 := 1#32
  let v564 : BitVec 32 := Scalar.select v563 c1_i32_389 c16_i32_387
  let v565 : BitVec 32 := Scalar.remsi v562 v564
  let c0_i32_391 : BitVec 32 := 0#32
  let v567 : BitVec 1 := Scalar.cmpi .slt v565 c0_i32_391
  let c0_i32_392 : BitVec 32 := 0#32
  let v568 : BitVec 1 := Scalar.cmpi .slt v564 c0_i32_392
  let v569 : BitVec 1 := Scalar.xori v567 v568
  let c0_i32_390 : BitVec 32 := 0#32
  let v566 : BitVec 1 := Scalar.cmpi .ne v565 c0_i32_390
  let v570 : BitVec 1 := Scalar.andi v569 v566
  let v571 : BitVec 32 := Scalar.addi v565 v564
  let v572 : BitVec 32 := Scalar.select v570 v571 v565
  let c1_i32_397 : BitVec 32 := 1#32
  let v574 : BitVec 32 := Scalar.muli v572 c1_i32_397
  let v575 : BitVec 32 := Scalar.addi c0_i32_398 v574
  v575.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_402 : BitVec 32 := 32#32
  let v583 : BitVec 32 := Scalar.muli v2 c32_i32_402
  let v584 : Index := Scalar.indexCast v583
  let c0_403 : Index := 0#32
  ![v584.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x64 : Shape := ⟨2, ![512, 64]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 90
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S64x256x512, .bf16⟩
  | .hbm, ⟨4, _⟩ => ⟨S512x256, .f32⟩
  | .hbm, ⟨5, _⟩ => ⟨S256x64, .f32⟩
  | .hbm, ⟨6, _⟩ => ⟨S64x256x512, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x64, .f32⟩
  | .hbm, ⟨18, _⟩ => ⟨S512x64, .f32⟩
  | .hbm, ⟨19, _⟩ => ⟨S512x1, .i32⟩
  | .hbm, ⟨20, _⟩ => ⟨S512, .i32⟩
  | .hbm, ⟨21, _⟩ => ⟨S512x1, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S512x1, .i32⟩
  | .hbm, ⟨40, _⟩ => ⟨S512x2, .i32⟩
  | .hbm, ⟨41, _⟩ => ⟨S512, .f32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S512x1, .i32⟩
  | .hbm, ⟨57, _⟩ => ⟨S512x1, .i32⟩
  | .hbm, ⟨58, _⟩ => ⟨S512x2, .i32⟩
  | .hbm, ⟨59, _⟩ => ⟨S512, .f32⟩
  | .hbm, ⟨60, _⟩ => ⟨S512, .f32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S512x256x512, .f32⟩
  | .hbm, ⟨70, _⟩ => ⟨S512x512, .f32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S512x256x512, .f32⟩
  | .hbm, ⟨80, _⟩ => ⟨S512x512, .f32⟩
  | .hbm, ⟨81, _⟩ => ⟨S512, .f32⟩
  | .hbm, ⟨82, _⟩ => ⟨S512x1, .f32⟩
  | .hbm, ⟨83, _⟩ => ⟨S512x512, .f32⟩
  | .hbm, ⟨84, _⟩ => ⟨S512x512, .f32⟩
  | .hbm, ⟨85, _⟩ => ⟨S512, .f32⟩
  | .hbm, ⟨86, _⟩ => ⟨S512x1, .f32⟩
  | .hbm, ⟨87, _⟩ => ⟨S512x512, .f32⟩
  | .hbm, ⟨88, _⟩ => ⟨S512x512, .f32⟩
  | .hbm, ⟨89, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Protocol.lean ====
/-
# The exchange protocol

Sixteen devices. Each computes a partial result of 512 rows, then hands rows `[32 d, 32 d + 32)` of it to device `d`,
for every other `d`, by one remote copy into a slot of its own in `d`'s receive buffer. Before that, every device tells
every other one (one unit on the runtime's barrier semaphore) that it has entered the kernel, and waits for the other
fifteen. This module names the pieces: the ring arithmetic, the buffers' parts, the semaphores' cells, the contents, and
the schedule saying which device pays which unit with which part of a buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own copy of the rounds resource (duties named by `Fin 15`), beside the pipeline library's. -/
abbrev UX : Type := URounds (GSem nD τ sig) (Fin 15)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Who sends to whom -/

/-- The device `j + 1` places after `c`. -/
def tgt (c : Dev nD) (j : Fin 15) : Dev nD := ⟨(c.val + (j.val + 1)) % 16, Nat.mod_lt _ (by decide)⟩
/-- The device `j + 1` places before `c`. -/
def src (c : Dev nD) (j : Fin 15) : Dev nD := ⟨(c.val + (15 - j.val)) % 16, Nat.mod_lt _ (by decide)⟩
/-- The offset that undoes `j`'s. -/
def opp (j : Fin 15) : Fin 15 := ⟨14 - j.val, by omega⟩

theorem src_tgt (c : Dev nD) (j : Fin 15) : src (tgt c j) j = c := by revert c j; decide
theorem tgt_src (c : Dev nD) (j : Fin 15) : tgt (src c j) j = c := by revert c j; decide
theorem tgt_opp (c : Dev nD) (j : Fin 15) : tgt (tgt c j) (opp j) = c := by revert c j; decide
theorem src_eq_tgt (c : Dev nD) (j : Fin 15) : src c j = tgt c (opp j) := by revert c j; decide
theorem opp_opp (j : Fin 15) : opp (opp j) = j := by revert j; decide
theorem tgt_injective (c : Dev nD) : Function.Injective (tgt c) := by revert c; decide
theorem tgt_ne (c : Dev nD) (j : Fin 15) : tgt c j ≠ c := by revert c j; decide
/-- The fifteen targets of `c` are all the devices but `c`. -/
theorem tgt_univ (c : Dev nD) : Finset.univ.map ⟨tgt c, tgt_injective c⟩ = Finset.univ.erase c := by revert c; decide

/-- Moving every device `j + 1` places round. -/
def turn (j : Fin 15) : Dev nD ≃ Dev nD := ⟨fun c => tgt c j, fun c => src c j, fun c => src_tgt c j, fun c => tgt_src c j⟩
/-- Reversing the fifteen offsets. -/
def flip : Fin 15 ≃ Fin 15 := ⟨opp, opp, opp_opp, opp_opp⟩

/-! ## Buffers and their parts -/

abbrev xM : Memref sig .tc .vmem S512x256 .bf16 := Memref.whole cc0_stg0_0
abbrev wM : Memref sig .tc .vmem S256x64 .bf16 := Memref.whole cc0_stg1_0
abbrev iM : Memref sig .tc .vmem S512x2 .i32 := Memref.whole cc0_stg2_0
abbrev eM : Memref sig .tc .vmem S4x256x512 .bf16 := Memref.whole cc0_stg3_0
abbrev oM : Memref sig .tc .vmem S32x512 .f32 := Memref.whole cc0_stg4_0
abbrev pM : Memref sig .tc .vmem S512x512 .bf16 := Memref.whole cc0_scratch0
abbrev rM : Memref sig .tc .vmem S15x32x512 .bf16 := Memref.whole cc0_scratch1

theorem row_inb (d : Dev nD) : ∀ a, (![32 * d.val, 0] : Fin 2 → ℕ) a + S32x512.size a ≤ S512x512.size a := by revert d; decide
theorem slot_inb (j : Fin 15) : ∀ a, (![j.val, 0, 0] : Fin 3 → ℕ) a + S1x32x512.size a ≤ S15x32x512.size a := by revert j; decide
theorem sem_inb (j : Fin 15) : ∀ a, (![j.val] : Fin 1 → ℕ) a + S1.size a ≤ S15.size a := by revert j; decide

/-- Rows `[32 d, 32 d + 32)` of the partial result. -/
abbrev rowM (d : Dev nD) : Memref sig .tc .vmem S32x512 .bf16 :=
  pM.slice (Rect.unit (s := S512x512) ![32 * d.val, 0] S32x512.size (row_inb d)) (fun _ => rfl)
abbrev slotR (j : Fin 15) : Rect S15x32x512 := Rect.unit (s := S15x32x512) ![j.val, 0, 0] S1x32x512.size (slot_inb j)
/-- Slot `j` of the receive buffer, as 32 rows. -/
abbrev slotM (j : Fin 15) : Memref sig .tc .vmem S32x512 .bf16 :=
  (rM.slice (slotR j) (fun _ => rfl)).squeeze S32x512 squeezes_S1x32x512_S32x512

abbrev barS : Sem sig := (SemArray.scalar (sig.barrier 0 rfl) : Sems sig S_).sem
abbrev sendS (j : Fin 15) : DmaSem sig :=
  (((cc0_scratch2 : DmaSems sig S15).slice (Rect.unit (s := S15) ![j.val] S1.size (sem_inb j))).squeeze S_ squeezes_S1_S_).sem
abbrev recvS (j : Fin 15) : DmaSem sig :=
  (((cc0_scratch3 : DmaSems sig S15).slice (Rect.unit (s := S15) ![j.val] S1.size (sem_inb j))).squeeze S_ squeezes_S1_S_).sem

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

theorem sendS_injective : Function.Injective sendS := by decide +kernel
theorem recvS_injective : Function.Injective recvS := by decide +kernel
theorem sendS_ne_recvS (i j : Fin 15) : sendS i ≠ recvS j := by revert i j; decide +kernel

/-- What one block's copy credits. -/
abbrev N : ℕ := (slotM 0).view.dmaCredit
theorem N_pos : 0 < N := View.dmaCredit_pos _ (by decide)
theorem N_slot (j : Fin 15) : (slotM j).view.dmaCredit = N := rfl
theorem N_row (d : Dev nD) : (rowM d).view.dmaCredit = N := by revert d; decide +kernel

/-- The cells' names: the barrier's, then a send and a receive cell per offset. -/
abbrev CI : Type := Unit ⊕ (Fin 15 ⊕ Fin 15)
/-- The kernel's own (scoped) semaphores. -/
def osem : Fin 15 ⊕ Fin 15 → SemLoc sig
  | .inl j => .dma (sendS j)
  | .inr j => .dma (recvS j)
/-- All of the exchange's semaphores. -/
def csem : CI → SemLoc sig
  | .inl _ => .reg barS
  | .inr k => osem k
def kcell (ck : Dev nD × CI) : GSem nD τ sig := ((ck.1 : Thread nD τ), csem ck.2)

theorem osem_injective : Function.Injective osem := by
  rintro (i | i) (j | j) h
  · exact congrArg _ (sendS_injective (SemLoc.dma.inj h))
  · exact absurd (SemLoc.dma.inj h) (sendS_ne_recvS i j)
  · exact absurd (SemLoc.dma.inj h).symm (sendS_ne_recvS j i)
  · exact congrArg _ (recvS_injective (SemLoc.dma.inj h))
theorem osem_ne_bar (k : Fin 15 ⊕ Fin 15) : osem k ≠ .reg barS := by rcases k with j | j <;> exact fun h => by cases h
theorem csem_injective : Function.Injective csem := by
  rintro (i | i) (j | j) h
  · rfl
  · exact absurd h.symm (osem_ne_bar j)
  · exact absurd h (osem_ne_bar i)
  · exact congrArg _ (osem_injective h)
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def estg (c : Dev nD) : (cc0_stg3_0 : Ref sig .tc).ty.Contents (Elt F) :=
  (win0_3.blk (0 : Fin 1)).view.read (Elt F) ((s₀ m ρ).mem ((c : Thread nD τ).loc main_arg3))

/-- A device's number as the word the program computes from it. -/
abbrev devWord (c : Dev nD) : BitVec 32 := Scalar.remsi (Scalar.divsi (Dev.word c) 1#32) 16#32

abbrev colR (k : Fin 2) : Rect S512x2 := Rect.unit (s := S512x2) ![0, k.val] S512x1.size (by revert k; decide)
abbrev expR (l : Fin 4) : Rect S4x256x512 := Rect.unit (s := S4x256x512) ![l.val, 0, 0] S1x256x512.size (by revert l; decide)

/-- Column `k` of the routing indices as loaded, -/
def col (c : Dev nD) (k : Fin 2) : Vec F S512x1 .i32 := iM.view.readAt (Elt F) (colR k).toLoadRect (istg m ρ c)
/-- the `l`-th local expert's matrix as loaded. -/
def expert (c : Dev nD) (l : Fin 4) : Vec F S1x256x512 .bf16 := eM.view.readAt (Elt F) (expR l).toLoadRect (estg m ρ c)

/-- The partial result device `c` computes from its four experts. -/
def part (c : Dev nD) : (cc0_scratch0 : Ref sig .tc).ty.Contents (Elt F) :=
  k0_pay3 (k0_pay1 (xstg m ρ c)) (k0_pay2 (devWord c) (xstg m ρ c) (wstg m ρ c) (col m ρ c 0) (col m ρ c 1))
    (Scalar.ofBits .f32 0x00000000#32) (expert m ρ c 0) (expert m ρ c 1) (expert m ρ c 2) (expert m ρ c 3)

/-- The rows of device `b`'s partial result that belong to device `d`. -/
def rowVec (b d : Dev nD) : Vec F S32x512 .bf16 := (rowM d).view.read (Elt F) (part m ρ b)

theorem slot_numel : S1x32x512.numel = S32x512.numel := (squeezes_S1x32x512_S32x512).numel_eq.symm
/-- The same block with a leading axis of size one. -/
def unsq (X : Vec F S32x512 .bf16) : Vec F S1x32x512 .bf16 := fun z => X (Shape.reshapeEquiv slot_numel z)

/-- What device `c` finds in slot `j`. -/
def slotVec (c : Dev nD) (j : Fin 15) : Vec F S1x32x512 .bf16 := unsq (rowVec m ρ (src c j) c)

/-- The result of device `c`: its own rows, then the fifteen slots, added in turn. -/
def outAt (c : Dev nD) : (cc0_stg4_0 : Ref sig .tc).ty.Contents (Elt F) :=
  k0_pay10 (k0_pay9 (k0_pay8 (k0_pay7 (k0_pay6 (k0_pay5 (k0_pay4 (rowVec m ρ c c) (slotVec m ρ c 0))
    (slotVec m ρ c 1) (slotVec m ρ c 2) (slotVec m ρ c 3)) (slotVec m ρ c 4) (slotVec m ρ c 5))
    (slotVec m ρ c 6) (slotVec m ρ c 7) (slotVec m ρ c 8)) (slotVec m ρ c 9) (slotVec m ρ c 10))
    (slotVec m ρ c 11) (slotVec m ρ c 12) (slotVec m ρ c 13)) (slotVec m ρ c 14)

omit [FloatOps F] in
/-- Contents whose 32-row reading of slot `j` is `X` are loaded from the slot as `X` with a leading axis. -/
theorem load_slot (j : Fin 15) (f : (cc0_scratch1 : Ref sig .tc).ty.Contents (Elt F)) (X : Vec F S32x512 .bf16)
    (h : (slotM j).view.read (Elt F) f = X) : rM.view.readAt (Elt F) (slotR j).toLoadRect f = unsq X := by
  subst h
  funext z
  show _ = (slotM j).view.read (Elt F) f (Shape.reshapeEquiv slot_numel z)
  show rM.view.read (Elt F) f ((slotR j).emb z) = rM.view.read (Elt F) f ((slotR j).emb (Shape.reshapeEquiv _ (Shape.reshapeEquiv slot_numel z)))
  rw [Shape.reshapeEquiv_reshapeEquiv, Shape.reshapeEquiv_self]

/-! ## Ownership of the parts -/

/-- Slot `j` of device `c`'s receive buffer, holding what `f` does there. -/
def slotPts (c : Dev nD) (j : Fin 15) (f : (cc0_scratch1 : Ref sig .tc).ty.Contents (Elt F)) : sProp 𝕄 :=
  (slotM j).view.loc (c : Thread nD τ) ↦[(slotM j).view.set]{fullShare} f
/-- Device `d`'s rows of device `c`'s partial result. -/
def rowPts (c d : Dev nD) (f : (cc0_scratch0 : Ref sig .tc).ty.Contents (Elt F)) : sProp 𝕄 :=
  (rowM d).view.loc (c : Thread nD τ) ↦[(rowM d).view.set]{fullShare} f

omit [FloatOps F] in
instance slotPts_storable (c : Dev nD) (j) (f) : BI.Storable (upEmb : UEmb _ 𝕄) (slotPts (F := F) c j f) := by unfold slotPts; infer_instance
omit [FloatOps F] in
instance rowPts_storable (c d : Dev nD) (f) : BI.Storable (upEmb : UEmb _ 𝕄) (rowPts (F := F) c d f) := by unfold rowPts; infer_instance

/-! ## The schedule -/

/-- What `tgt c j`'s signal hands `c`: slot `j` of that device's receive buffer, whatever is in it; -/
def barPay (c : Dev nD) (j : Fin 15) : sProp 𝕄 := iprop(∃ f, slotPts (tgt c j) j f)
/-- what the copy from `src c j` hands `c`: slot `j`, holding `c`'s rows of that device's partial result; -/
def recvPay (c : Dev nD) (j : Fin 15) : sProp 𝕄 :=
  iprop(∃ f, ⌜(slotM j).view.read (Elt F) f = rowVec m ρ (src c j) c⌝ ∗ slotPts c j f)
/-- what `c`'s own copy gives back once it has been read: the rows sent. -/
def sendPay (c : Dev nD) (j : Fin 15) : sProp 𝕄 := rowPts c (tgt c j) (part m ρ c)

abbrev IsBar (g : GSem nD τ sig) : Prop := g.1.2 = .tc ∧ g.2 = .reg barS
abbrev IsXfer (g : GSem nD τ sig) : Prop := g.1.2 = .tc ∧ ∃ k, g.2 = osem k

open Classical in
/-- One round. A barrier cell expects fifteen units, duty `j` paid by `tgt c j`; each send and receive cell one block's
    credit. -/
def sched : Rounds.Schedule (GSem nD τ sig) (Fin 15) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if h : ∃ k, g.2 = osem k then Sum.elim (sendPay m ρ g.1.1) (recvPay m ρ g.1.1) (Classical.choose h)
    else iprop(emp)
  amount_pos g _ _ _ := by
    by_cases h : g.2 = .reg barS
    · rw [if_pos h]; exact Nat.one_pos
    · rw [if_neg h]; exact N_pos

instance sched_storable (g : GSem nD τ sig) (r : ℕ) (d : Fin 15) :
    BI.Storable (upEmb : UEmb _ 𝕄) ((sched (F := F) m ρ).payload g r d) := by
  dsimp only [sched]
  split
  · unfold barPay; infer_instance
  · split
    · rename_i h
      generalize Classical.choose h = k
      rcases k with j | j
      · dsimp only [Sum.elim_inl]; unfold sendPay; infer_instance
      · dsimp only [Sum.elim_inr]; unfold recvPay; infer_instance
    · infer_instance

section Sched
variable (c : Dev nD)

theorem duties_bar : (sched (F := F) m ρ).duties (barCell c) 0 = Finset.univ := by
  dsimp only [sched]; exact if_pos ⟨rfl, rfl, rfl⟩
theorem duties_own (k : Fin 15 ⊕ Fin 15) : (sched (F := F) m ρ).duties (kcell (c, .inr k)) 0 = {0} := by
  dsimp only [sched]; rw [if_neg (fun h => osem_ne_bar k h.2.2)]; exact if_pos ⟨rfl, rfl, k, rfl⟩
theorem duties_later (g : GSem nD τ sig) : ∀ r, 1 ≤ r → (sched (F := F) m ρ).duties g r = ∅ :=
  fun r hr => by dsimp only [sched]; rw [if_neg fun h => by omega, if_neg fun h => by omega]
theorem amount_bar (d : Fin 15) : (sched (F := F) m ρ).amount (barCell c) 0 d = 1 := by dsimp only [sched]; exact if_pos rfl
theorem amount_own (k : Fin 15 ⊕ Fin 15) (d : Fin 15) : (sched (F := F) m ρ).amount (kcell (c, .inr k)) 0 d = N := by
  dsimp only [sched]; exact if_neg (osem_ne_bar k)
theorem expect_bar : (sched (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_own (k : Fin 15 ⊕ Fin 15) : (sched (F := F) m ρ).expect (kcell (c, .inr k)) 0 = N := by
  unfold Schedule.expect Schedule.amountOf; rw [duties_own, Finset.sum_singleton, amount_own]
theorem payload_bar (d : Fin 15) : (sched (F := F) m ρ).payload (barCell c) 0 d = barPay c d := by dsimp only [sched]; rw [if_pos rfl]
theorem payload_own (k : Fin 15 ⊕ Fin 15) (d : Fin 15) :
    (sched (F := F) m ρ).payload (kcell (c, .inr k)) 0 d = Sum.elim (sendPay m ρ c) (recvPay m ρ c) k := by
  have h : ∃ k', osem k = osem k' := ⟨k, rfl⟩
  dsimp only [sched, kcell, csem]
  rw [if_neg (osem_ne_bar k), dif_pos h, ← osem_injective (Classical.choose_spec h)]

/-- All a barrier cell's round delivers: one slot of each other device. -/
theorem rest_bar : bigSep ((sched (F := F) m ρ).duties (barCell c) 0 \ ∅) (fun d => (sched (F := F) m ρ).payload (barCell c) 0 d)
    = bigSep Finset.univ fun j => barPay c j := by
  rw [Finset.sdiff_empty, duties_bar]; exact bigSep_congr fun d _ => payload_bar m ρ c d
theorem rest_own (k : Fin 15 ⊕ Fin 15) :
    bigSep ((sched (F := F) m ρ).duties (kcell (c, .inr k)) 0 \ ∅) (fun d => (sched (F := F) m ρ).payload (kcell (c, .inr k)) 0 d)
      = Sum.elim (sendPay m ρ c) (recvPay m ρ c) k := by
  rw [Finset.sdiff_empty, duties_own, bigSep_singleton, payload_own]

end Sched

end Cert.Exchange

end
-- ==== Proof.Steps.lean ====
/-
# One step of each kind

The program repeats four kinds of step fifteen times each: a signal, a copy, a wait for an arriving block (followed by a
load of it), a wait for one of its own copies. Each kind is proved here once, at offset `j`, as a passage from the state
before step `j` to the state before step `j + 1`; a state holds the steps' resources as two families, those still to do
and those done.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Still to do, done -/

def hi (k : ℕ) : Finset (Fin 15) := Finset.univ.filter fun i => k ≤ i.val
def lo (k : ℕ) : Finset (Fin 15) := Finset.univ.filter fun i => i.val < k

theorem not_mem_hi {j : ℕ} (hj : j < 15) : (⟨j, hj⟩ : Fin 15) ∉ hi (j + 1) := by simp [hi]
theorem not_mem_lo {j : ℕ} (hj : j < 15) : (⟨j, hj⟩ : Fin 15) ∉ lo j := by simp [lo]
theorem hi_eq {j : ℕ} (hj : j < 15) : hi j = insert ⟨j, hj⟩ (hi (j + 1)) := by
  ext i; simp only [hi, Finset.mem_filter, Finset.mem_univ, true_and, Finset.mem_insert, Fin.ext_iff]; omega
theorem lo_eq {j : ℕ} (hj : j < 15) : lo (j + 1) = insert ⟨j, hj⟩ (lo j) := by
  ext i; simp only [lo, Finset.mem_filter, Finset.mem_univ, true_and, Finset.mem_insert, Fin.ext_iff]; omega
theorem hi_zero : hi 0 = Finset.univ := by ext i; simp [hi]
theorem lo_end : lo 15 = Finset.univ := by ext i; simp [lo]
theorem hi_end : hi 15 = ∅ := by ext i; simp [hi]
theorem lo_zero : lo 0 = ∅ := by ext i; simp [lo]

theorem bigSep_hi {j : ℕ} (hj : j < 15) (Φ : Fin 15 → sProp 𝕄) :
    bigSep (hi j) Φ = iprop(Φ ⟨j, hj⟩ ∗ bigSep (hi (j + 1)) Φ) := by
  rw [hi_eq hj]; exact bigSep_insert (not_mem_hi hj)
theorem bigSep_lo {j : ℕ} (hj : j < 15) (Φ : Fin 15 → sProp 𝕄) :
    bigSep (lo (j + 1)) Φ = iprop(Φ ⟨j, hj⟩ ∗ bigSep (lo j) Φ) := by
  rw [lo_eq hj]; exact bigSep_insert (not_mem_lo hj)

/-! ## What is owed -/

/-- The blocks device `c` has still to send from offset `k` on, -/
def owedRecv (c : Dev nD) (k : ℕ) : CellTallies nD τ sig Unit := ∑ i ∈ hi k, tallyAt (recvCell (tgt c i) i) () N
/-- the units it has still to signal. -/
def owedBar (c : Dev nD) (k : ℕ) : CellTallies nD τ sig Unit := ∑ i ∈ hi k, tallyAt (barCell (tgt c i)) () 1
/-- All it owes at launch. -/
def O₀ (c : Dev nD) : CellTallies nD τ sig Unit := owedRecv c 0 + owedBar c 0

theorem owedRecv_step (c : Dev nD) {j : ℕ} (hj : j < 15) :
    owedRecv c j = owedRecv c (j + 1) + tallyAt (recvCell (tgt c ⟨j, hj⟩) ⟨j, hj⟩) () N := by
  unfold owedRecv; rw [hi_eq hj, Finset.sum_insert (not_mem_hi hj), add_comm]
theorem owedBar_step (c : Dev nD) {j : ℕ} (hj : j < 15) :
    owedBar c j = owedBar c (j + 1) + tallyAt (barCell (tgt c ⟨j, hj⟩)) () 1 := by
  unfold owedBar; rw [hi_eq hj, Finset.sum_insert (not_mem_hi hj), add_comm]
theorem owedRecv_end (c : Dev nD) : owedRecv c 15 = 0 := by unfold owedRecv; rw [hi_end, Finset.sum_empty]
theorem owedBar_end (c : Dev nD) : owedBar c 15 = 0 := by unfold owedBar; rw [hi_end, Finset.sum_empty]

theorem sum_tally_pos {s : Finset (Fin 15)} {f : Fin 15 → CellTallies nD τ sig Unit} {g : GSem nD τ sig} {u : Unit}
    (h : 0 < (∑ i ∈ s, f i) g u) : ∃ i, 0 < f i g u := by
  rw [Finset.sum_apply, Finsupp.finset_sum_apply] at h
  obtain ⟨i, -, hi⟩ := Finset.exists_ne_zero_of_sum_ne_zero h.ne'
  exact ⟨i, Nat.pos_of_ne_zero hi⟩

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem owedRecv_pos {c : Dev nD} {k : ℕ} {g : GSem nD τ sig} {u : Unit} (h : 0 < owedRecv c k g u) : ∃ d i, g = recvCell d i := by
  obtain ⟨i, hi⟩ := sum_tally_pos h; exact ⟨_, _, tally_pos hi⟩
theorem owedBar_pos {c : Dev nD} {k : ℕ} {g : GSem nD τ sig} {u : Unit} (h : 0 < owedBar c k g u) : ∃ d, g = barCell d := by
  obtain ⟨i, hi⟩ := sum_tally_pos h; exact ⟨_, tally_pos hi⟩
theorem O₀_pos {c : Dev nD} {g : GSem nD τ sig} {u : Unit} (h : 0 < O₀ c g u) : (∃ d i, g = recvCell d i) ∨ ∃ d, g = barCell d := by
  unfold O₀ at h
  rw [Pi.add_apply, Finsupp.add_apply] at h
  rcases Nat.eq_zero_or_pos (owedRecv c 0 g u) with h0 | h0
  · exact .inr (owedBar_pos (c := c) (k := 0) (g := g) (u := u) (by omega))
  · exact .inl (owedRecv_pos h0)

/-! ## Levels: staging and send cells below barrier cells below receive cells -/

def L (g : GSem nD τ sig) : Finset Unit := if g.1.2 = .tc then {()} else ∅
open Classical in
def lv (g : GSem nD τ sig) (_ : Unit) : ℕ := if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 15) (u : Unit) : lv (recvCell c j) u = 2 := by
  unfold lv; rw [if_neg (fun h => by cases h), if_pos ⟨j, rfl⟩]

theorem mayWait_stage (c : Dev nD) (q : DmaSem sig) (hq : ∀ j, q ≠ recvS j) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, i, rfl⟩ | ⟨d, rfl⟩ <;> exact Finset.mem_singleton_self _)
      (fun p hp => by
        rw [Finset.mem_singleton.mp hp]; dsimp only [lv]
        rw [if_neg (fun h => by cases h), if_neg (fun ⟨j, h⟩ => hq j (SemLoc.dma.inj h))])
      (fun g u hg => by
        rcases O₀_pos hg with ⟨d, i, rfl⟩ | ⟨d, rfl⟩
        · rw [lv_recv]; decide
        · rw [lv_bar]; decide)
  · rw [MayWait_zero]; iintro -; iempintro

/-- At its barrier wait a device owes blocks only, whose cells lie above. -/
theorem mayWait_bar (c : Dev nD) (k : ℕ) : (levAts L lv : sProp 𝕄) ⊢ MayWait (c : Thread nD τ) (.reg barS) () (owedRecv c k) :=
  MayOwe.of_cut (L := L) (lev := lv) 1 (fun p hp => by rw [Finset.mem_singleton.mp hp, L_tc]; exact Finset.mem_singleton_self _)
    (fun g u hg => by obtain ⟨d, i, rfl⟩ := owedRecv_pos hg; exact Finset.mem_singleton_self _)
    (fun p hp => by rw [Finset.mem_singleton.mp hp]; exact (lv_bar c ()).le)
    (fun g u hg => by obtain ⟨d, i, rfl⟩ := owedRecv_pos hg; rw [lv_recv]; decide)

/-! ## The records every device reads -/

/-- Every cell's invariant, under the names `K`, and that every cell has begun. -/
def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) : records m ρ K ⊢ cellInv ER (sched m ρ) (K ck) (kcell ck) := by
  unfold records; exact Entails.trans sep_elim_left (bigSep_elim (Finset.mem_univ ck))
theorem reached_at (K : Dev nD × CI → ℕ) (ck : Dev nD × CI) : records m ρ K ⊢ reached ER (kcell ck) 0 := by
  unfold records; exact Entails.trans sep_elim_right (bigSep_elim (Finset.mem_univ ck))

/-- Owing `O`, whatever the waits so far. -/
def owesAny (c : Dev nD) (O : CellTallies nD τ sig Unit) : sProp 𝕄 := iprop(∃ W, owes (c : Thread nD τ) O W)

abbrev 𝒱₀ : Variants := Variants.none
/-- The program `p` on device `c` ends in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (K : Dev nD × CI → ℕ) (c : Dev nD) {α : Type} {Q : α → sProp (MT nD τ sig Unit (Elt F) ℕ UU ℕ)}
  (Z : sProp (MT nD τ sig Unit (Elt F) ℕ UU ℕ))

/-! ## Signals -/

/-- What the signal at offset `i` needs: the right to pay, and the slot it lends. -/
def sigRes (i : Fin 15) : sProp 𝕄 := iprop(dutyTok ER (barCell (tgt c i)) 0 (opp i) ∗ ∃ f, slotPts c (opp i) f)
def sigSt (j : ℕ) : sProp 𝕄 := iprop(records m ρ K ∗ owesAny c (owedRecv c 0 + owedBar c j) ∗ bigSep (hi j) (sigRes c) ∗ Z)

theorem step_signal (j : ℕ) (hj : j < 15) (n : Dev nD) (hn : n = tgt c ⟨j, hj⟩) (z : ℤ) (hz : z = ((1 : ℕ) : ℤ))
    {k : PUnit → Prog (TpuEff nD τ sig (Elt F) Λ₀ .tc) α} (h : sigSt m ρ K c Z (j + 1) ⊢ wpc c (k ⟨⟩) Q) :
    sigSt m ρ K c Z j ⊢ wpc c (.op (.semSignal (n : Thread nD τ) barS z) k) Q := by
  subst hn hz
  unfold sigSt owesAny at h ⊢
  rw [bigSep_hi hj]
  unfold sigRes
  iintro ⟨#Hr, ⟨%W, HO⟩, ⟨⟨Htok, Hslot⟩, Hs⟩, HR⟩
  iapply (Rounds.wp_signal 𝒱₀ ER (sched m ρ) (c : Thread nD τ) none (dst := (tgt c ⟨j, hj⟩ : Thread nD τ)) (κ := K (tgt c ⟨j, hj⟩, .inl ()))
      (O₀ := owedRecv c 0 + owedBar c j)
      (d := opp ⟨j, hj⟩) (by rw [duties_bar]; exact Finset.mem_univ _) (amount_bar m ρ (tgt c ⟨j, hj⟩) _) ()
      (owedRecv c 0 + owedBar c (j + 1)) (by rw [owedBar_step c hj, add_assoc])) $$ [HO Htok Hslot]
  · isplitr; · iapply (inv_at m ρ K (tgt c ⟨j, hj⟩, .inl ())); iexact Hr
    isplitl [HO]; · iexact HO
    isplitl [Htok]; · iexact Htok
    isplitl [Hslot]
    · rw [payload_bar]; unfold barPay; rw [tgt_opp]; iexact Hslot
    iapply (reached_at m ρ K (tgt c ⟨j, hj⟩, .inl ())); iexact Hr
  iintro HO
  iapply h
  isplitr; · iexact Hr
  isplitl [HO]; · iexists W; iexact HO
  isplitl [Hs]; · unfold sigRes; iexact Hs
  iexact HR

/-! ## The barrier wait -/

/-- Before the wait: every unit signalled; the fifteen units expected here; the levels. -/
def gateSt : sProp 𝕄 :=
  iprop(records m ρ K ∗ owesAny c (owedRecv c 0) ∗ atPos ER (barCell c) 0 ∅ 0 ∗ cred (tallyAt (barCell c) () 15) ∗ levAts L lv ∗ Z)
/-- After it: one slot of each other device, and the barrier's counter back at zero. -/
def openSt : sProp 𝕄 :=
  iprop(records m ρ K ∗ owesAny c (owedRecv c 0) ∗ (bigSep Finset.univ fun j => barPay c j) ∗ semVal (barCell c) 0 ∗ Z)

theorem step_gate (z : ℤ) (hz : z = ((15 : ℕ) : ℤ))
    {k : PUnit → Prog (TpuEff nD τ sig (Elt F) Λ₀ .tc) α} (h : openSt m ρ K c Z ⊢ wpc c (k ⟨⟩) Q) :
    gateSt m ρ K c Z ⊢ wpc c (.op (.semWait barS z) k) Q := by
  subst hz
  unfold gateSt owesAny
  unfold openSt owesAny at h
  iintro ⟨#Hr, ⟨%W, HO⟩, Hat, Hc, #Hlev, HR⟩
  iapply (Rounds.wp_wait_rest_token 𝒱₀ ER (sched m ρ) (c : Thread nD τ) none (κ := K (c, .inl ()))
      (wpE_semWait_eq 𝒱₀ (c : Thread nD τ) none Set.univ) (Set.mem_univ _) () (O := owedRecv c 0) (W := W) (R := 0) (m := 0) (T := ∅)
      (by rw [Nat.zero_add, expect_bar])) $$ [Hc HO Hat]
  · isplitr; · iapply (inv_at m ρ K (c, .inl ())); iexact Hr
    isplitl [Hc]; · iexact Hc
    isplitl [HO]; · iexact HO
    isplitr; · iapply (mayWait_bar c 0); iexact Hlev
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iapply (inv_at m ρ K (c, .inl ())); iexact Hr
    iexact Hat
  iapply h
  isplitr; · iexact Hr
  isplitl [HO]; · iexists (insert (SemLoc.reg barS, ()) W); iexact HO
  isplitl [Hp]; · iexact Hp
  isplitl [Hz]; · iexact Hz
  iexact HR

/-! ## Copies -/

/-- What the copy at offset `i` needs: the rights to pay both its cells, the rows it reads, the slot it writes. -/
def sendRes (i : Fin 15) : sProp 𝕄 :=
  iprop(dutyTok ER (sendCell c i) 0 0 ∗ dutyTok ER (recvCell (tgt c i) i) 0 0 ∗ rowPts c (tgt c i) (part m ρ c) ∗ barPay c i)
def sentRes (i : Fin 15) : sProp 𝕄 := cred (tallyAt (sendCell c i) () N)
def sendSt (j : ℕ) : sProp 𝕄 :=
  iprop(records m ρ K ∗ owesAny c (owedRecv c j) ∗ bigSep (hi j) (sendRes m ρ c) ∗ bigSep (lo j) (sentRes c) ∗ Z)

theorem duty_send (i : Fin 15) : (0 : Fin 15) ∈ (sched m ρ).duties ((c : Thread nD τ), .dma (sendS i)) 0 := by
  have := duties_own m ρ c (.inl i)
  exact this ▸ Finset.mem_singleton_self _
theorem duty_recv (i : Fin 15) : (0 : Fin 15) ∈ (sched m ρ).duties ((c : Thread nD τ), .dma (recvS i)) 0 := by
  have := duties_own m ρ c (.inr i)
  exact this ▸ Finset.mem_singleton_self _
/-- The rows read, given back, are what the send cell delivers. -/
theorem pay_send (i : Fin 15) :
    ((rowM (tgt c i)).view.loc (c : Thread nD τ) ↦[(rowM (tgt c i)).view.set]{fullShare} part m ρ c : sProp 𝕄)
      ⊢ (sched m ρ).payload ((c : Thread nD τ), .dma (sendS i)) 0 0 :=
  BIBase.Entails.of_eq (payload_own m ρ c (.inl i) 0).symm
/-- A slot rewritten with the rows sent is what the receive cell delivers. -/
theorem pay_recv (i : Fin 15) (fd : (cc0_scratch1 : Ref sig .tc).ty.Contents (Elt F)) :
    ((slotM i).view.loc (tgt c i : Thread nD τ) ↦[(slotM i).view.set]{fullShare}
        (slotM i).view.write (Elt F) fd ((rowM (tgt c i)).view.read (Elt F) (part m ρ c)) Finset.univ : sProp 𝕄)
      ⊢ (sched m ρ).payload ((tgt c i : Thread nD τ), .dma (recvS i)) 0 0 := by
  refine BIBase.Entails.trans ?_ (BIBase.Entails.of_eq (payload_own m ρ (tgt c i) (.inr i) 0).symm)
  show _ ⊢ recvPay m ρ (tgt c i) i
  unfold recvPay slotPts rowVec
  rw [src_tgt]
  iintro H
  iexists _
  isplitr
  rotate_left
  · iexact H
  ipureintro; exact View.read_write_univ _ _

theorem step_send (j : ℕ) (hj : j < 15) (n : Dev nD) (hn : n = tgt c ⟨j, hj⟩) (off : Fin 2 → ℕ)
    (hinb : ∀ a, off a + S32x512.size a ≤ S512x512.size a) (hoff : off = ![32 * (tgt c ⟨j, hj⟩).val, 0])
    {hsc : (slotM ⟨j, hj⟩ : Memref sig (Dev.tc n : Thread nD τ).2.kind .vmem S32x512 .bf16).view.ref.isScScratch = false}
    {hsrc : ((pM.slice (Rect.unit (s := S512x512) off S32x512.size hinb) (fun _ => rfl)) : Memref sig .tc .vmem S32x512 .bf16).view.WordExact}
    {hdst : (slotM ⟨j, hj⟩).view.WordExact}
    {hsem : DmaTarget.Typed .vmem (.dma (recvS ⟨j, hj⟩)) (.remote (Dev.tc n : Thread nD τ) (slotM ⟨j, hj⟩) (.dma (sendS ⟨j, hj⟩)) hsc)}
    {k : PUnit → Prog (TpuEff nD τ sig (Elt F) Λ₀ .tc) α} (h : sendSt m ρ K c Z (j + 1) ⊢ wpc c (k ⟨⟩) Q) :
    sendSt m ρ K c Z j ⊢ wpc c (.op (.enqueueDma (pM.slice (Rect.unit (s := S512x512) off S32x512.size hinb) (fun _ => rfl))
      (.remote (Dev.tc n : Thread nD τ) (slotM ⟨j, hj⟩) (.dma (sendS ⟨j, hj⟩)) hsc) (.dma (recvS ⟨j, hj⟩)) hsrc hdst hsem) k) Q := by
  subst hn hoff
  have hr : τ.routes (c : Thread nD τ) (tgt c ⟨j, hj⟩ : Thread nD τ) = true := by routes
  unfold sendSt owesAny at h ⊢
  rw [bigSep_hi hj]
  rw [bigSep_lo hj] at h
  unfold sendRes rowPts barPay slotPts
  iintro ⟨#Hr, ⟨%W, HO⟩, ⟨⟨Hts, Htr, Hrow, ⟨%fd, Hslot⟩⟩, Hs⟩, Hd, HR⟩
  iapply (Rounds.wp_send_pointsTo (q := fullShare) (fs := part m ρ c) (α := α) (O₀ := owedRecv c j) (defs := defs₀ (F := F)) 𝒱₀ ER (sched m ρ) (c : Thread nD τ) none (c' := (tgt c ⟨j, hj⟩ : Thread nD τ))
    (src := rowM (tgt c ⟨j, hj⟩)) (dst := slotM ⟨j, hj⟩) (sS := .dma (sendS ⟨j, hj⟩)) (sem := .dma (recvS ⟨j, hj⟩))
    (κ₁ := K (c, .inr (.inl ⟨j, hj⟩))) (κ₂ := K (tgt c ⟨j, hj⟩, .inr (.inr ⟨j, hj⟩)))
    (r₁ := 0) (r₂ := 0) (d₁ := 0) (d₂ := 0) (fd := fd) (hsc := hsc) (hsrc := hsrc) (hdst := hdst) (hsem := hsem) (k := k) (Q := Q) (Es := Set.univ)
    (duty_send m ρ c _) (duty_recv m ρ _ _) () () N rfl (amount_own m ρ c (.inl ⟨j, hj⟩) 0) (amount_own m ρ (tgt c ⟨j, hj⟩) (.inr ⟨j, hj⟩) 0)
    (owedRecv c (j + 1)) (owedRecv_step c hj) (W := W) (pay_send m ρ c _) (pay_recv m ρ c _ fd) hr) $$ [HO Hts Htr Hrow Hslot]
  · isplitr; · iapply (inv_at m ρ K (c, .inr (.inl ⟨j, hj⟩))); iexact Hr
    isplitr; · iapply (inv_at m ρ K (tgt c ⟨j, hj⟩, .inr (.inr ⟨j, hj⟩))); iexact Hr
    isplitl [Hrow]; · iexact Hrow
    isplitl [Hslot]; · iexact Hslot
    isplitl [HO]; · iexact HO
    isplitl [Hts]; · iexact Hts
    isplitr; · iapply (reached_at m ρ K (c, .inr (.inl ⟨j, hj⟩))); iexact Hr
    isplitl [Htr]; · iexact Htr
    iapply (reached_at m ρ K (tgt c ⟨j, hj⟩, .inr (.inr ⟨j, hj⟩))); iexact Hr
  iintro ⟨Hc, HO⟩
  iapply h
  isplitr; · iexact Hr
  isplitl [HO]; · iexists W; iexact HO
  isplitl [Hs]; · unfold sendRes rowPts barPay slotPts; iexact Hs
  isplitl [Hc Hd]
  · isplitl [Hc]; · unfold sentRes; iexact Hc
    iexact Hd
  iexact HR

/-! ## Waits for a block, arriving or sent -/

/-- What a wait on one of the device's own cells needs: its position at the cell and the credit expected. -/
def waitRes (k : Fin 15 ⊕ Fin 15) : sProp 𝕄 := iprop(atPos ER (kcell (c, .inr k)) 0 ∅ 0 ∗ cred (tallyAt (kcell (c, .inr k)) () N))
/-- What it leaves: what the cell delivers, and its counter at zero. -/
def doneRes (k : Fin 15 ⊕ Fin 15) : sProp 𝕄 := iprop(Sum.elim (sendPay m ρ c) (recvPay m ρ c) k ∗ semVal (kcell (c, .inr k)) 0)

theorem wait_own (k : Fin 15 ⊕ Fin 15) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem (.inr k)) N P)
    {k' : PUnit → Prog (TpuEff nD τ sig (Elt F) Λ₀ .tc) α}
    (h : iprop(records m ρ K ∗ owesAny c 0 ∗ doneRes m ρ c k ∗ Z) ⊢ wpc c (k' ⟨⟩) Q) :
    iprop(records m ρ K ∗ owesAny c 0 ∗ waitRes c k ∗ Z) ⊢ wpc c (.op w k') Q := by
  unfold waitRes owesAny
  unfold doneRes owesAny at h
  iintro ⟨#Hr, ⟨%W, HO⟩, ⟨Hat, Hc⟩, HR⟩
  iapply (Rounds.wp_wait_rest_token 𝒱₀ ER (sched m ρ) (c : Thread nD τ) none (κ := K (c, .inr k)) (sm := csem (.inr k))
      hw (Set.mem_univ _) () (O := 0) (W := W) (R := 0) (m := 0) (T := ∅)
      (by rw [Nat.zero_add]; exact (expect_own m ρ c k).symm)) $$ [Hc HO Hat]
  · isplitr; · iapply (inv_at m ρ K (c, .inr k)); iexact Hr
    isplitl [Hc]; · iexact Hc
    isplitl [HO]; · iexact HO
    isplitr; · rw [MayWait_zero]; iempintro
    iexact Hat
  iintro ⟨HO, Hat, -, Hpay⟩
  ihave Hp := (BIBase.Entails.of_eq (show bigSep ((sched m ρ).duties ((c : Thread nD τ), csem (.inr k)) 0 \ ∅)
    (fun d => (sched m ρ).payload ((c : Thread nD τ), csem (.inr k)) 0 d) = _ from rest_own m ρ c k)) $$ Hpay
  imod (Rounds.cell_close ER (sched m ρ) (Set.mem_univ (K (c, .inr k))) (fun h => h) (R := 0 + 1) (duties_later m ρ (kcell (c, .inr k)))) $$ [Hat] with Hz
  · isplitr; · iapply (inv_at m ρ K (c, .inr k)); iexact Hr
    iexact Hat
  iapply h
  isplitr; · iexact Hr
  isplitl [HO]; · iexists (insert (csem (.inr k), ()) W); iexact HO
  isplitl [Hp Hz]
  · isplitl [Hp]; · iexact Hp
    iexact Hz
  iexact HR

/-- Waits on the cells `f 0, …, f 14` in turn: `f` is the sending or the receiving side. -/
def waitSt (f : Fin 15 → Fin 15 ⊕ Fin 15) (j : ℕ) : sProp 𝕄 :=
  iprop(records m ρ K ∗ owesAny c 0 ∗ (bigSep (hi j) fun i => waitRes c (f i)) ∗ (bigSep (lo j) fun i => doneRes m ρ c (f i)) ∗ Z)

theorem step_wait (f : Fin 15 → Fin 15 ⊕ Fin 15) (j : ℕ) (hj : j < 15) {w : TpuEff nD τ sig (Elt F) Λ₀ .tc PUnit}
    (hw : ∀ P : PUnit → sProp 𝕄, wpE (defs₀ (F := F)) 𝒱₀ (c : Thread nD τ) none Set.univ w P
      = waitSpec (c : Thread nD τ) Set.univ (csem (.inr (f ⟨j, hj⟩))) N P)
    {k : PUnit → Prog (TpuEff nD τ sig (Elt F) Λ₀ .tc) α} (h : waitSt m ρ K c Z f (j + 1) ⊢ wpc c (k ⟨⟩) Q) :
    waitSt m ρ K c Z f j ⊢ wpc c (.op w k) Q := by
  unfold waitSt at h ⊢
  rw [bigSep_hi hj]
  rw [bigSep_lo hj] at h
  refine BIBase.Entails.trans ?_ (wait_own m ρ K c
    iprop((bigSep (hi (j + 1)) fun i => waitRes c (f i)) ∗ (bigSep (lo j) fun i => doneRes m ρ c (f i)) ∗ Z) (f ⟨j, hj⟩) hw (BIBase.Entails.trans ?_ h))
  · iintro ⟨#Hr, HO, ⟨H1, H2⟩, H3, H4⟩
    isplitr; · iexact Hr
    isplitl [HO]; · iexact HO
    isplitl [H1]; · iexact H1
    isplitl [H2]; · iexact H2
    isplitl [H3]; · iexact H3
    iexact H4
  · iintro ⟨#Hr, HO, H1, H2, H3, H4⟩
    isplitr; · iexact Hr
    isplitl [HO]; · iexact HO
    isplitl [H2]; · iexact H2
    isplitl [H1 H3]
    · isplitl [H1]; · iexact H1
      iexact H3
    iexact H4

/-- The load of slot `j`, after the wait for it. -/
theorem step_load_slot (j : ℕ) (hj : j < 15) {hl : rM.view.LoadsAt (slotR ⟨j, hj⟩).toLoadRect}
    {k : Vec F S1x32x512 .bf16 → Prog (TpuEff nD τ sig (Elt F) Λ₀ .tc) α}
    (h : waitSt m ρ K c Z Sum.inr (j + 1) ⊢ wpc c (k (slotVec m ρ c ⟨j, hj⟩)) Q) :
    waitSt m ρ K c Z Sum.inr (j + 1) ⊢ wpc c (.op (.load rM (slotR ⟨j, hj⟩).toLoadRect hl) k) Q := by
  unfold waitSt at h ⊢
  rw [bigSep_lo hj] at h ⊢
  iintro ⟨#Hr, HO, H1, ⟨H2, H3⟩, H4⟩
  unfold doneRes
  icases H2 with ⟨Hp, Hz⟩
  ihave Hp := (Entails.of_eq (show Sum.elim (sendPay m ρ c) (recvPay m ρ c) (Sum.inr ⟨j, hj⟩) = recvPay m ρ c ⟨j, hj⟩ from rfl)) $$ Hp
  unfold recvPay
  icases Hp with ⟨%f, %hf, Hp⟩
  unfold slotPts
  iapply (wp_load 𝒱₀ (c : Thread nD τ) none Set.univ (m := rM) (r := (slotR ⟨j, hj⟩).toLoadRect) (S := (slotM ⟨j, hj⟩).view.set)
    (by rw [View.set_reshape]; exact (View.set_slice _ _).symm.subset)) $$ Hp
  iintro Hp
  rw [load_slot ⟨j, hj⟩ f _ hf]
  iapply h
  isplitr; · iexact Hr
  isplitl [HO]; · iexact HO
  isplitl [H1]; · iexact H1
  isplitl [Hp Hz H3]
  · isplitl [Hp Hz]
    · unfold doneRes
      isplitl [Hp]
      · iapply (Entails.of_eq (show recvPay m ρ c ⟨j, hj⟩ = Sum.elim (sendPay m ρ c) (recvPay m ρ c) (Sum.inr ⟨j, hj⟩) from rfl))
        unfold recvPay slotPts
        iexists f
        isplitr; · ipureintro; exact hf
        iexact Hp
      iexact Hz
    iexact H3
  iexact H4

end Steps

end Cert.Exchange

end
-- ==== Proof.Parts.lean ====
/-
# The two scratch buffers, part by part

The receive buffer is its fifteen slots; the partial result is the sixteen devices' rows, a device's own and one block per
target. Both are cut at the start of a kernel and put together again at its end.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A slot's elements are those whose leading index is the slot's number. -/
theorem slot_set (j : Fin 15) : (slotM j).view.set = (slotR j).set := by
  rw [View.set_reshape]; exact View.set_slice_whole _ _

theorem slot_disjoint (i j : Fin 15) (h : i ≠ j) : Disjoint (slotR i).set (slotR j).set := by
  refine Rect.unit_disjoint (0 : Fin 3) ?_
  show i.val + 1 ≤ j.val ∨ j.val + 1 ≤ i.val
  have : i.val ≠ j.val := fun e => h (Fin.ext e)
  omega

theorem slot_cover : (Finset.univ.biUnion fun j : Fin 15 => (slotR j).set) = Finset.univ := by
  refine Finset.eq_univ_iff_forall.mpr fun i => Finset.mem_biUnion.mpr ⟨(⟨(i (0 : Fin 3)).val, (i (0 : Fin 3)).isLt⟩ : Fin 15), Finset.mem_univ _, ?_⟩
  rw [Rect.mem_set_unit]
  intro a
  fin_cases a
  · exact ⟨le_rfl, Nat.lt_succ_self _⟩
  · exact ⟨Nat.zero_le _, (Nat.zero_add _).symm ▸ (i (1 : Fin 3)).isLt⟩
  · exact ⟨Nat.zero_le _, (Nat.zero_add _).symm ▸ (i (2 : Fin 3)).isLt⟩

abbrev rowR (d : Dev nD) : Rect S512x512 := Rect.unit (s := S512x512) ![32 * d.val, 0] S32x512.size (row_inb d)
theorem row_set (d : Dev nD) : (rowM d).view.set = (rowR d).set := View.set_slice_whole _ _

theorem row_disjoint (i j : Dev nD) (h : i ≠ j) : Disjoint (rowR i).set (rowR j).set := by
  refine Rect.unit_disjoint (0 : Fin 2) ?_
  show 32 * i.val + 32 ≤ 32 * j.val ∨ 32 * j.val + 32 ≤ 32 * i.val
  have : i.val ≠ j.val := fun e => h (Fin.ext e)
  omega

theorem row_cover : (Finset.univ.biUnion fun d : Dev nD => (rowR d).set) = Finset.univ := by
  refine Finset.eq_univ_iff_forall.mpr fun i => Finset.mem_biUnion.mpr
    ⟨(⟨(i (0 : Fin 2)).val / 32, Nat.div_lt_of_lt_mul (i (0 : Fin 2)).isLt⟩ : Dev nD), Finset.mem_univ _, ?_⟩
  rw [Rect.mem_set_unit]
  intro a
  fin_cases a
  · show 32 * ((i (0 : Fin 2)).val / 32) ≤ (i (0 : Fin 2)).val ∧ (i (0 : Fin 2)).val < 32 * ((i (0 : Fin 2)).val / 32) + 32
    omega
  · exact ⟨Nat.zero_le _, (Nat.zero_add _).symm ▸ (i (1 : Fin 2)).isLt⟩

theorem slotPts_eq (c : Dev nD) (j : Fin 15) (f : (cc0_scratch1 : Ref sig .tc).ty.Contents (Elt F)) :
    (slotPts c j f : sProp 𝕄) = (((c : Thread nD τ).loc cc0_scratch1) ↦[(slotR j).set]{fullShare} f) :=
  congrArg (fun S => (((c : Thread nD τ).loc cc0_scratch1) ↦[S]{fullShare} f : sProp 𝕄)) (slot_set j)
theorem rowPts_eq (c d : Dev nD) (f : (cc0_scratch0 : Ref sig .tc).ty.Contents (Elt F)) :
    (rowPts c d f : sProp 𝕄) = (((c : Thread nD τ).loc cc0_scratch0) ↦[(rowR d).set]{fullShare} f) :=
  congrArg (fun S => (((c : Thread nD τ).loc cc0_scratch0) ↦[S]{fullShare} f : sProp 𝕄)) (row_set d)

abbrev scr0 (c : Dev nD) (f : (cc0_scratch0 : Ref sig .tc).ty.Contents (Elt F)) : sProp 𝕄 := ((c : Thread nD τ).loc cc0_scratch0) ↦{fullShare} f
abbrev scr1 (c : Dev nD) (f : (cc0_scratch1 : Ref sig .tc).ty.Contents (Elt F)) : sProp 𝕄 := ((c : Thread nD τ).loc cc0_scratch1) ↦{fullShare} f

/-- The receive buffer is its slots. -/
theorem scr1_slots (c : Dev nD) (f : (cc0_scratch1 : Ref sig .tc).ty.Contents (Elt F)) :
    (scr1 c f : sProp 𝕄) = bigSep Finset.univ fun j => slotPts c j f := by
  simp only [slotPts_eq]
  exact Ring.pointsTo_blocks (ℓ := (c : Thread nD τ).loc cc0_scratch1) (fun j => (slotR j).set) slot_disjoint slot_cover f

/-- The slots at whatever contents are the receive buffer at some contents. -/
theorem slots_join (c : Dev nD) : (bigSep Finset.univ fun j => iprop(∃ f, slotPts c j f) : sProp 𝕄) ⊢ iprop(∃ f, scr1 c f) := by
  simp only [slotPts_eq]
  exact Ring.pointsTo_blocks_join_exists (ℓ := (c : Thread nD τ).loc cc0_scratch1) (fun j => (slotR j).set) slot_disjoint slot_cover
    (fun _ => (Scalar.ofBits .bf16 0x0000#16 : Elt F .bf16))

/-- The partial result is the device's own rows and the rows of its fifteen targets. -/
theorem scr0_rows (c : Dev nD) (f : (cc0_scratch0 : Ref sig .tc).ty.Contents (Elt F)) :
    (scr0 c f : sProp 𝕄) = iprop(rowPts c c f ∗ bigSep Finset.univ fun j => rowPts c (tgt c j) f) := by
  have h : (scr0 c f : sProp 𝕄) = bigSep Finset.univ fun d => rowPts c d f := by
    simp only [rowPts_eq]
    exact Ring.pointsTo_blocks (ℓ := (c : Thread nD τ).loc cc0_scratch0) (q := fullShare) (fun d => (rowR d).set) row_disjoint row_cover f
  rw [h, bigSep_erase (Finset.mem_univ c), ← tgt_univ c, bigSep_map]
  rfl

end Cert.Exchange

end
-- ==== Proof.Access.lean ====
/-
# Loads, stores and waits, one step at a time

A step here passes from a state `Z` to a state `Z'`: `Z` gives the buffer's ownership up and takes it back as `Z'`. The
waits are the steps of `Steps` at the two kinds of wait the program has.
-/
module

public import proofs.«01_k».proof.Proof.Steps
public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section
variable (c : Dev nD) {α : Type} {Q : α → sProp (MT nD τ sig Unit (Elt F) ℕ UU ℕ)} {Z Z' : sProp (MT nD τ sig Unit (Elt F) ℕ UU ℕ)}

/-- A load of what is known to be there. -/
theorem step_load {s : Shape} {e : EltTy} {M : Memref sig .tc .vmem s e} {r : LoadRect s} {hl : M.view.LoadsAt r}
    {k : (r.shape.Idx → Elt F e) → Prog (TpuEff nD τ sig (Elt F) Λ₀ .tc) α}
    (S : Finset (Idx (M.view.loc (c : Thread nD τ)))) (f : Buf (Elt F) (M.view.loc (c : Thread nD τ))) (v : r.shape.Idx → Elt F e)
    (hS : M.view.setOn r.set ⊆ S) (hv : M.view.readAt (Elt F) r f = v)
    (hz : Z ⊢ iprop((M.view.loc (c : Thread nD τ) ↦[S]{fullShare} f) ∗ ((M.view.loc (c : Thread nD τ) ↦[S]{fullShare} f) -∗ Z)))
    (h : Z ⊢ wpc c (k v) Q) : Z ⊢ wpc c (.op (.load M r hl) k) Q := by
  subst hv
  refine hz.trans ?_
  iintro ⟨H, Hz⟩
  iapply (wp_load 𝒱₀ (c : Thread nD τ) none Set.univ (m := M) (r := r) hS) $$ H
  iintro H
  iapply h
  iapply Hz
  iexact H

/-- A load whose value the program doesn't use. -/
theorem step_load_any {s : Shape} {e : EltTy} {M : Memref sig .tc .vmem s e} {r : LoadRect s} {hl : M.view.LoadsAt r}
    {k : (r.shape.Idx → Elt F e) → Prog (TpuEff nD τ sig (Elt F) Λ₀ .tc) α}
    (hz : Z ⊢ iprop(∃ f : Buf (Elt F) (M.view.loc (c : Thread nD τ)),
      (M.view.loc (c : Thread nD τ) ↦{fullShare} f) ∗ ((M.view.loc (c : Thread nD τ) ↦{fullShare} f) -∗ Z)))
    (h : ∀ v, Z ⊢ wpc c (k v) Q) : Z ⊢ wpc c (.op (.load M r hl) k) Q := by
  refine hz.trans ?_
  iintro ⟨%f, H, Hz⟩
  iapply (wp_load 𝒱₀ (c : Thread nD τ) none Set.univ (m := M) (r := r) (Finset.subset_univ _)) $$ H
  iintro H
  iapply (h _)
  iapply Hz
  iexact H

/-- A store over the whole of a buffer. -/
theorem step_store {s : Shape} {e : EltTy} {M : Memref sig .tc .vmem s e} {r : Rect s} {w : r.shape.Idx → Elt F e}
    {hx : (M.access r).Stores Finset.univ} {hm} {k : PUnit → Prog (TpuEff nD τ sig (Elt F) Λ₀ .tc) α}
    (g : Buf (Elt F) ((M.access r).loc (c : Thread nD τ)))
    (hw : ∀ f : Buf (Elt F) ((M.access r).loc (c : Thread nD τ)), (M.access r).write (Elt F) f w Finset.univ = g)
    (hz : Z ⊢ iprop(∃ f : Buf (Elt F) ((M.access r).loc (c : Thread nD τ)),
      ((M.access r).loc (c : Thread nD τ) ↦{fullShare} f) ∗ (((M.access r).loc (c : Thread nD τ) ↦{fullShare} g) -∗ Z')))
    (h : Z' ⊢ wpc c (k ⟨⟩) Q) : Z ⊢ wpc c (.op (.store M r w Finset.univ hx hm) k) Q := by
  refine hz.trans ?_
  iintro ⟨%f, H, Hz⟩
  iapply (wp_store 𝒱₀ (c : Thread nD τ) none Set.univ (m := M) (r := r) (Mk := Finset.univ) (Finset.subset_univ _)) $$ H
  rw [hw]
  iintro H
  iapply h
  iapply Hz
  iexact H

end

section
variable (K : Dev nD × CI → ℕ) (c : Dev nD) {α : Type} {Q : α → sProp (MT nD τ sig Unit (Elt F) ℕ UU ℕ)}
  (Z : sProp (MT nD τ sig Unit (Elt F) ℕ UU ℕ))

/-- The wait for the block arriving at offset `j`. -/
theorem step_recv_wait (j : ℕ) (hj : j < 15) {A : Memref sig .tc .vmem S32x512 .bf16} {hA} {hB}
    {k : PUnit → Prog (TpuEff nD τ sig (Elt F) Λ₀ .tc) α} (h : waitSt m ρ K c Z Sum.inr (j + 1) ⊢ wpc c (k ⟨⟩) Q) :
    waitSt m ρ K c Z Sum.inr j ⊢ wpc c (.op (.waitDma2 (recvS ⟨j, hj⟩) A (slotM ⟨j, hj⟩) hA hB) k) Q :=
  step_wait m ρ K c Z Sum.inr j hj (w := .waitDma2 (recvS ⟨j, hj⟩) A (slotM ⟨j, hj⟩) hA hB)
    (fun P => wpE_waitDma2_eq (src := A) (dst := slotM ⟨j, hj⟩) (hsrc := hA) (hdst := hB) 𝒱₀ (c : Thread nD τ) none Set.univ P) h

/-- The wait for its own copy at offset `j`. -/
theorem step_send_wait (j : ℕ) (hj : j < 15) {A : Memref sig .tc .vmem S32x512 .bf16} {hA} (off : Fin 2 → ℕ)
    (hinb : ∀ a, off a + S32x512.size a ≤ S512x512.size a) (hoff : off = ![32 * (tgt c ⟨j, hj⟩).val, 0])
    {hB : ((pM.slice (Rect.unit (s := S512x512) off S32x512.size hinb) (fun _ => rfl)) : Memref sig .tc .vmem S32x512 .bf16).view.WordExact}
    {k : PUnit → Prog (TpuEff nD τ sig (Elt F) Λ₀ .tc) α} (h : waitSt m ρ K c Z Sum.inl (j + 1) ⊢ wpc c (k ⟨⟩) Q) :
    waitSt m ρ K c Z Sum.inl j
      ⊢ wpc c (.op (.waitDma2 (sendS ⟨j, hj⟩) A (pM.slice (Rect.unit (s := S512x512) off S32x512.size hinb) (fun _ => rfl)) hA hB) k) Q := by
  subst hoff
  exact step_wait m ρ K c Z Sum.inl j hj (fun P => (wpE_waitDma2_eq 𝒱₀ (c : Thread nD τ) none Set.univ P).trans
    (congrArg (fun n => waitSpec (c : Thread nD τ) Set.univ (SemLoc.dma (sendS ⟨j, hj⟩)) n P) (N_row (tgt c ⟨j, hj⟩)))) h

end

end Cert.Exchange

end
-- ==== Proof.State.lean ====
/-
# The states a device passes through

What a device holds when its body starts and when it ends, and the passages between the four loops' states: the signals,
the copies, the waits for the blocks arriving and the waits for its own copies.
-/
module

public import proofs.«01_k».proof.Proof.Access

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Taking one factor out and giving it back -/

section Factor
variable {A B P : sProp (MT nD τ sig Unit (Elt F) ℕ UU ℕ)}

theorem take_left : iprop(A ∗ B) ⊢ iprop(A ∗ (A -∗ (A ∗ B))) := by
  iintro ⟨H, HB⟩
  isplitl [H]; · iexact H
  iintro H
  isplitl [H]; · iexact H
  iexact HB

theorem take_right (h : B ⊢ iprop(P ∗ (P -∗ B))) : iprop(A ∗ B) ⊢ iprop(P ∗ (P -∗ (A ∗ B))) := by
  iintro ⟨H, HB⟩
  ihave HB := h $$ HB
  icases HB with ⟨HP, HB⟩
  isplitl [HP]; · iexact HP
  iintro HP
  isplitl [H]; · iexact H
  iapply HB
  iexact HP

theorem swap_left {ι : Type} {G : ι → sProp (MT nD τ sig Unit (Elt F) ℕ UU ℕ)} {g : ι} :
    iprop((∃ f, G f) ∗ B) ⊢ iprop(∃ f, G f ∗ (G g -∗ (G g ∗ B))) := by
  iintro ⟨⟨%f, H⟩, HB⟩
  iexists f
  isplitl [H]; · iexact H
  iintro H
  isplitl [H]; · iexact H
  iexact HB

theorem swap_right {ι : Type} {G : ι → sProp (MT nD τ sig Unit (Elt F) ℕ UU ℕ)} {g : ι} {B' : sProp (MT nD τ sig Unit (Elt F) ℕ UU ℕ)}
    (h : B ⊢ iprop(∃ f, G f ∗ (G g -∗ B'))) : iprop(A ∗ B) ⊢ iprop(∃ f, G f ∗ (G g -∗ (A ∗ B'))) := by
  iintro ⟨H, HB⟩
  ihave HB := h $$ HB
  icases HB with ⟨%f, HP, HB⟩
  iexists f
  isplitl [HP]; · iexact HP
  iintro HP
  isplitl [H]; · iexact H
  iapply HB
  iexact HP

theorem any_left {ι : Type} {G : ι → sProp (MT nD τ sig Unit (Elt F) ℕ UU ℕ)} :
    iprop((∃ f, G f) ∗ B) ⊢ iprop(∃ f, G f ∗ (G f -∗ ((∃ f, G f) ∗ B))) := by
  iintro ⟨⟨%f, H⟩, HB⟩
  iexists f
  isplitl [H]; · iexact H
  iintro H
  isplitl [H]; · iexists f; iexact H
  iexact HB

theorem any_right {ι : Type} {G : ι → sProp (MT nD τ sig Unit (Elt F) ℕ UU ℕ)}
    (h : B ⊢ iprop(∃ f, G f ∗ (G f -∗ B))) : iprop(A ∗ B) ⊢ iprop(∃ f, G f ∗ (G f -∗ (A ∗ B))) := by
  iintro ⟨H, HB⟩
  ihave HB := h $$ HB
  icases HB with ⟨%f, HP, HB⟩
  iexists f
  isplitl [HP]; · iexact HP
  iintro HP
  isplitl [H]; · iexact H
  iapply HB
  iexact HP

end Factor

section State
variable (K : Dev nD × CI → ℕ) (c : Dev nD)

/-- A whole buffer of device `c` holding `f`. -/
abbrev whl (b : Ref sig .tc) (f : Buf (Elt F) ((c : Thread nD τ).loc b)) : sProp 𝕄 := ((c : Thread nD τ).loc b) ↦{fullShare} f
abbrev outSome : sProp 𝕄 := iprop(∃ f, whl c cc0_stg4_0 f)
abbrev outDone : sProp 𝕄 := whl c cc0_stg4_0 (outAt m ρ c)

/-- The four operands' staging buffers. -/
def ops : sProp 𝕄 :=
  iprop(whl c cc0_stg0_0 (xstg m ρ c) ∗ whl c cc0_stg1_0 (wstg m ρ c) ∗ whl c cc0_stg2_0 (istg m ρ c) ∗ whl c cc0_stg3_0 (estg m ρ c) ∗ emp)

/-- The device's positions at its cells of one side. -/
def posAt (f : Fin 15 → Fin 15 ⊕ Fin 15) : sProp 𝕄 := bigSep Finset.univ fun j => atPos ER (kcell (c, .inr (f j))) 0 ∅ 0
def credRecv : sProp 𝕄 := bigSep Finset.univ fun j => cred (tallyAt (recvCell c j) () N)
def toksBar : sProp 𝕄 := bigSep Finset.univ fun j => dutyTok ER (barCell (tgt c j)) 0 (opp j)
def toksSend : sProp 𝕄 := bigSep Finset.univ fun j => dutyTok ER (sendCell c j) 0 0
def toksRecv : sProp 𝕄 := bigSep Finset.univ fun j => dutyTok ER (recvCell (tgt c j) j) 0 0
def doneAll (f : Fin 15 → Fin 15 ⊕ Fin 15) : sProp 𝕄 := bigSep Finset.univ fun j => doneRes m ρ c (f j)

/-- What stays with device `c`: its positions, and the rights to pay the duties that are its own to pay. -/
def linear : sProp 𝕄 :=
  iprop(atPos ER (barCell c) 0 ∅ 0 ∗ posAt c Sum.inl ∗ posAt c Sum.inr ∗ toksBar c ∗ toksSend c ∗ toksRecv c)

/-- What a device's body starts from, -/
def bodyStart : sProp 𝕄 :=
  iprop(records m ρ K ∗ linear c ∗ cred (tallyAt (barCell c) () 15) ∗ credRecv c ∗ levAts L lv
    ∗ (∃ f, scr0 c f) ∗ (∃ f, scr1 c f) ∗ owesAny c (O₀ c) ∗ ops m ρ c ∗ outSome c)
/-- and what it ends with. -/
def bodyEnd : sProp 𝕄 :=
  iprop(((∃ f, scr0 c f) ∗ (∃ f, scr1 c f) ∗ (bigSep Finset.univ fun k => semVal (kcell (c, .inr k)) 0) ∗ semVal (barCell c) 0)
    ∗ owesAny c 0 ∗ ops m ρ c ∗ outDone m ρ c)

/-- What is put by until the copies start. -/
def Zmem : sProp 𝕄 :=
  iprop((∃ f, whl c cc0_scratch0 f) ∗ ops m ρ c ∗ outSome c ∗ posAt c Sum.inl ∗ posAt c Sum.inr ∗ credRecv c ∗ toksSend c ∗ toksRecv c)
def Zsig : sProp 𝕄 := iprop(atPos ER (barCell c) 0 ∅ 0 ∗ cred (tallyAt (barCell c) () 15) ∗ levAts L lv ∗ Zmem m ρ c)
/-- The state while the partial result is computed, `S` standing for the buffer it goes to. -/
def memSt (S : sProp 𝕄) : sProp 𝕄 :=
  iprop(S ∗ ops m ρ c ∗ (records m ρ K ∗ owesAny c (owedRecv c 0) ∗ (bigSep Finset.univ fun j => barPay c j) ∗ semVal (barCell c) 0
    ∗ outSome c ∗ posAt c Sum.inl ∗ posAt c Sum.inr ∗ credRecv c ∗ toksSend c ∗ toksRecv c))
def Zsend : sProp 𝕄 :=
  iprop(rowPts c c (part m ρ c) ∗ semVal (barCell c) 0 ∗ posAt c Sum.inl ∗ posAt c Sum.inr ∗ credRecv c ∗ ops m ρ c ∗ outSome c)
def Zrecv (O : sProp 𝕄) : sProp 𝕄 :=
  iprop(O ∗ rowPts c c (part m ρ c) ∗ semVal (barCell c) 0 ∗ posAt c Sum.inl ∗ (bigSep Finset.univ fun j => sentRes c j) ∗ ops m ρ c)
def Zfin : sProp 𝕄 :=
  iprop(rowPts c c (part m ρ c) ∗ semVal (barCell c) 0 ∗ doneAll m ρ c Sum.inr ∗ ops m ρ c ∗ outDone m ρ c)

theorem slot_some (j : Fin 15) (f : (cc0_scratch1 : Ref sig .tc).ty.Contents (Elt F)) : slotPts c j f ⊢ iprop(∃ f, slotPts c j f) := by
  iintro H; iexists f; iexact H

/-- The receive buffer cut into slots, each lent with the signal to its device. -/
theorem sig_all : iprop(toksBar (F := F) c ∗ ∃ f, scr1 c f) ⊢ bigSep (hi 0) (sigRes c) := by
  have h : iprop(∃ f, scr1 (F := F) c f) ⊢ bigSep Finset.univ fun i => iprop(∃ f, slotPts c (opp i) f) := by
    have hs : ∀ f, scr1 (F := F) c f ⊢ bigSep Finset.univ fun j => iprop(∃ f, slotPts c j f) := fun f => by
      rw [scr1_slots]; exact bigSep_mono fun j _ => slot_some c j f
    have hf : (bigSep Finset.univ (fun j => iprop(∃ f, slotPts (F := F) c j f)) : sProp 𝕄) = bigSep Finset.univ fun i => iprop(∃ f, slotPts c (opp i) f) :=
      bigSep_univ_equiv flip (fun i => iprop(∃ f, slotPts (F := F) c i f))
    rw [← hf]
    iintro ⟨%f, H⟩
    iapply (hs f)
    iexact H
  rw [hi_zero]
  unfold toksBar sigRes
  rw [bigSep_sep']
  exact sep_mono_right h

theorem start_sig : bodyStart m ρ K c ⊢ sigSt m ρ K c (Zsig m ρ c) 0 := by
  unfold bodyStart linear sigSt Zsig Zmem
  iintro ⟨#Hr, ⟨H1, H2, H3, H4, H5, H6⟩, H7, H8, H9, H10, H11, H12, H13, H14⟩
  isplitr; · iexact Hr
  isplitl [H12]; · iexact H12
  isplitl [H4 H11]
  · iapply (sig_all c)
    isplitl [H4]; · iexact H4
    iexact H11
  isplitl [H1]; · iexact H1
  isplitl [H7]; · iexact H7
  isplitl [H9]; · iexact H9
  isplitl [H10]; · iexact H10
  isplitl [H13]; · iexact H13
  isplitl [H14]; · iexact H14
  isplitl [H2]; · iexact H2
  isplitl [H3]; · iexact H3
  isplitl [H8]; · iexact H8
  isplitl [H5]; · iexact H5
  iexact H6

theorem sig_gate : sigSt m ρ K c (Zsig m ρ c) 15 ⊢ gateSt m ρ K c (Zmem m ρ c) := by
  unfold sigSt gateSt Zsig
  rw [owedBar_end, add_zero]
  iintro ⟨#Hr, HO, -, H1, H2, H3, H4⟩
  isplitr; · iexact Hr
  isplitl [HO]; · iexact HO
  isplitl [H1]; · iexact H1
  isplitl [H2]; · iexact H2
  isplitl [H3]; · iexact H3
  iexact H4

theorem open_mem : openSt m ρ K c (Zmem m ρ c) ⊢ memSt m ρ K c iprop(∃ f, whl c cc0_scratch0 f) := by
  unfold openSt memSt Zmem
  iintro ⟨#Hr, HO, Hp, Hz, H0, H1, H2⟩
  isplitl [H0]; · iexact H0
  isplitl [H1]; · iexact H1
  isplitr; · iexact Hr
  isplitl [HO]; · iexact HO
  isplitl [Hp]; · iexact Hp
  isplitl [Hz]; · iexact Hz
  iexact H2

theorem mem_send : memSt m ρ K c (whl c cc0_scratch0 (part m ρ c)) ⊢ sendSt m ρ K c (Zsend m ρ c) 0 := by
  unfold memSt sendSt Zsend toksSend toksRecv
  rw [hi_zero, lo_zero, bigSep_empty]
  have h : (bigSep Finset.univ (sendRes m ρ c) : sProp 𝕄)
      = iprop((bigSep Finset.univ fun j => dutyTok ER (sendCell c j) 0 0) ∗ (bigSep Finset.univ fun j => dutyTok ER (recvCell (tgt c j) j) 0 0)
        ∗ (bigSep Finset.univ fun j => rowPts c (tgt c j) (part m ρ c)) ∗ (bigSep Finset.univ fun j => barPay c j)) := by
    unfold sendRes; rw [bigSep_sep', bigSep_sep', bigSep_sep']
  rw [h]
  iintro ⟨HS, H1, #Hr, HO, Hp, Hz, H2, H3, H4, H5, H6, H7⟩
  ihave HS := (BIBase.Entails.of_eq (scr0_rows c (part m ρ c))) $$ HS
  icases HS with ⟨Ho, HS⟩
  isplitr; · iexact Hr
  isplitl [HO]; · iexact HO
  isplitl [H6 H7 HS Hp]
  · isplitl [H6]; · iexact H6
    isplitl [H7]; · iexact H7
    isplitl [HS]; · iexact HS
    iexact Hp
  isplitr; · iempintro
  isplitl [Ho]; · iexact Ho
  isplitl [Hz]; · iexact Hz
  isplitl [H3]; · iexact H3
  isplitl [H4]; · iexact H4
  isplitl [H5]; · iexact H5
  isplitl [H1]; · iexact H1
  iexact H2

theorem send_recv : sendSt m ρ K c (Zsend m ρ c) 15 ⊢ waitSt m ρ K c (Zrecv m ρ c (outSome c)) Sum.inr 0 := by
  unfold sendSt waitSt Zsend Zrecv posAt credRecv
  rw [hi_zero, lo_zero, lo_end, bigSep_empty, owedRecv_end]
  have h : (bigSep Finset.univ (fun j => waitRes c (Sum.inr j)) : sProp 𝕄)
      = iprop((bigSep Finset.univ fun j => atPos ER (kcell (c, .inr (.inr j))) 0 ∅ 0) ∗ (bigSep Finset.univ fun j => cred (tallyAt (recvCell c j) () N))) := by
    unfold waitRes; rw [bigSep_sep']; rfl
  rw [h]
  iintro ⟨#Hr, HO, -, Hs, H1, H2, H3, H4, H5, H6, H7⟩
  isplitr; · iexact Hr
  isplitl [HO]; · iexact HO
  isplitl [H4 H5]
  · isplitl [H4]; · iexact H4
    iexact H5
  isplitr; · iempintro
  isplitl [H7]; · iexact H7
  isplitl [H1]; · iexact H1
  isplitl [H2]; · iexact H2
  isplitl [H3]; · iexact H3
  isplitl [Hs]; · iexact Hs
  iexact H6

theorem recv_sent : waitSt m ρ K c (Zrecv m ρ c (outDone m ρ c)) Sum.inr 15 ⊢ waitSt m ρ K c (Zfin m ρ c) Sum.inl 0 := by
  unfold waitSt Zrecv Zfin posAt doneAll
  rw [hi_zero, lo_zero, lo_end, bigSep_empty]
  have h : (bigSep Finset.univ (fun j => waitRes c (Sum.inl j)) : sProp 𝕄)
      = iprop((bigSep Finset.univ fun j => atPos ER (kcell (c, .inr (.inl j))) 0 ∅ 0) ∗ (bigSep Finset.univ fun j => sentRes c j)) := by
    unfold waitRes; rw [bigSep_sep']; rfl
  rw [h]
  iintro ⟨#Hr, HO, -, Hd, H1, H2, H3, H4, H5, H6⟩
  isplitr; · iexact Hr
  isplitl [HO]; · iexact HO
  isplitl [H4 H5]
  · isplitl [H4]; · iexact H4
    iexact H5
  isplitr; · iempintro
  isplitl [H2]; · iexact H2
  isplitl [H3]; · iexact H3
  isplitl [Hd]; · iexact Hd
  isplitl [H6]; · iexact H6
  iexact H1

theorem done_split (f : Fin 15 → Fin 15 ⊕ Fin 15) :
    doneAll m ρ c f = iprop((bigSep Finset.univ fun j => Sum.elim (sendPay m ρ c) (recvPay m ρ c) (f j)) ∗ bigSep Finset.univ fun j => semVal (kcell (c, .inr (f j))) 0) := by
  unfold doneAll doneRes; rw [bigSep_sep']

theorem recv_some (j : Fin 15) : recvPay m ρ c j ⊢ iprop(∃ f, slotPts c j f) := by
  unfold recvPay
  iintro ⟨%f, -, H⟩
  iexists f; iexact H

/-- The blocks received, whatever they hold, are the receive buffer. -/
theorem recv_join : (bigSep Finset.univ fun j => recvPay m ρ c j) ⊢ iprop(∃ f, scr1 c f) :=
  (bigSep_mono fun j _ => recv_some m ρ c j).trans (slots_join c)

theorem sent_end : waitSt m ρ K c (Zfin m ρ c) Sum.inl 15 ⊢ bodyEnd m ρ c := by
  have hl := done_split m ρ c Sum.inl
  have hk : (bigSep Finset.univ (fun k => semVal (kcell (c, .inr k)) 0) : sProp 𝕄)
      = iprop((bigSep Finset.univ fun j => semVal (kcell (c, .inr (.inl j))) 0) ∗ bigSep Finset.univ fun j => semVal (kcell (c, .inr (.inr j))) 0) :=
    BI.bigSep_univ_sum _
  unfold waitSt Zfin bodyEnd
  rw [lo_end, done_split m ρ c Sum.inr, show (bigSep Finset.univ fun i => doneRes m ρ c (Sum.inl i)) = doneAll m ρ c Sum.inl from rfl, hl, hk]
  iintro ⟨-, HO, -, ⟨Hs, Hzs⟩, Ho, Hz, ⟨Hv, Hzv⟩, H1, H2⟩
  isplitl [Hs Hzs Ho Hz Hv Hzv]
  · isplitl [Hs Ho]
    · iexists (part m ρ c)
      rw [scr0_rows]
      isplitl [Ho]; · iexact Ho
      iexact Hs
    isplitl [Hv]
    · iapply (recv_join m ρ c)
      iexact Hv
    isplitl [Hzs Hzv]
    · isplitl [Hzs]; · iexact Hzs
      iexact Hzv
    iexact Hz
  isplitl [HO]; · iexact HO
  isplitl [H1]; · iexact H1
  iexact H2

end State

end Cert.Exchange

end
-- ==== Proof.Body.lean ====
/-
# The body, from its first signal to its last wait

The program's effects in order, each by its step.
-/
module

public import proofs.«01_k».proof.Proof.State

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem off2 : (![0, 0] : Fin 2 → Nat) = fun _ => 0 := funext fun a => by fin_cases a <;> rfl

/-- The program's own rows, read back. -/
theorem own_set (c : Dev nD) (off : Fin 2 → ℕ) (hinb : ∀ a, off a + S32x512.size a ≤ S512x512.size a) (hoff : off = ![32 * c.val, 0]) :
    pM.view.setOn (Rect.unit (s := S512x512) off S32x512.size hinb).toLoadRect.set ⊆ (rowM c).view.set := by
  subst hoff
  exact (View.set_slice _ _).symm.subset
theorem own_read (c : Dev nD) (off : Fin 2 → ℕ) (hinb : ∀ a, off a + S32x512.size a ≤ S512x512.size a) (hoff : off = ![32 * c.val, 0]) :
    pM.view.readAt (Elt F) (Rect.unit (s := S512x512) off S32x512.size hinb).toLoadRect (part m ρ c) = rowVec m ρ c c := by
  subst hoff; rfl

section
variable (K : Dev nD × CI → ℕ) (c : Dev nD)

/-- One of the operands, taken from the state and given back. -/
theorem take_ops {S P : sProp (MT nD τ sig Unit (Elt F) ℕ UU ℕ)} (h : ops m ρ c ⊢ iprop(P ∗ (P -∗ ops m ρ c))) :
    memSt m ρ K c S ⊢ iprop(P ∗ (P -∗ memSt m ρ K c S)) := by
  unfold memSt
  refine take_right ?_
  iintro ⟨H, HB⟩
  ihave H := h $$ H
  icases H with ⟨HP, H⟩
  isplitl [HP]; · iexact HP
  iintro HP
  isplitl [HP H]
  · iapply H
    iexact HP
  iexact HB
theorem take_x : ops m ρ c ⊢ iprop(whl c cc0_stg0_0 (xstg m ρ c) ∗ (whl c cc0_stg0_0 (xstg m ρ c) -∗ ops m ρ c)) := by
  unfold ops; exact take_left
theorem take_w : ops m ρ c ⊢ iprop(whl c cc0_stg1_0 (wstg m ρ c) ∗ (whl c cc0_stg1_0 (wstg m ρ c) -∗ ops m ρ c)) := by
  unfold ops; exact take_right take_left
theorem take_i : ops m ρ c ⊢ iprop(whl c cc0_stg2_0 (istg m ρ c) ∗ (whl c cc0_stg2_0 (istg m ρ c) -∗ ops m ρ c)) := by
  unfold ops; exact take_right (take_right take_left)
theorem take_e : ops m ρ c ⊢ iprop(whl c cc0_stg3_0 (estg m ρ c) ∗ (whl c cc0_stg3_0 (estg m ρ c) -∗ ops m ρ c)) := by
  unfold ops; exact take_right (take_right (take_right take_left))

/-- The device's own rows, taken after the copies and given back. -/
theorem take_own : sendSt m ρ K c (Zsend m ρ c) 15
    ⊢ iprop(rowPts c c (part m ρ c) ∗ (rowPts c c (part m ρ c) -∗ sendSt m ρ K c (Zsend m ρ c) 15)) := by
  unfold sendSt Zsend
  exact take_right (take_right (take_right (take_right take_left)))

/-- The result's buffer, read and then filled. -/
theorem any_out : waitSt m ρ K c (Zrecv m ρ c (outSome c)) Sum.inr 15
    ⊢ iprop(∃ f, whl c cc0_stg4_0 f ∗ (whl c cc0_stg4_0 f -∗ waitSt m ρ K c (Zrecv m ρ c (outSome c)) Sum.inr 15)) := by
  unfold waitSt Zrecv
  exact any_right (any_right (any_right (any_right any_left)))
theorem fill_out : waitSt m ρ K c (Zrecv m ρ c (outSome c)) Sum.inr 15
    ⊢ iprop(∃ f, whl c cc0_stg4_0 f ∗ (outDone m ρ c -∗ waitSt m ρ K c (Zrecv m ρ c (outDone m ρ c)) Sum.inr 15)) := by
  unfold waitSt Zrecv
  exact swap_right (swap_right (swap_right (swap_right swap_left)))

set_option maxRecDepth 65536 in
theorem sound_body : bodyStart m ρ K c ⊢ wpc c (cc0_body (F := F) xM (Memref.isWhole_whole _) wM (Memref.isWhole_whole _) iM (Memref.isWhole_whole _)
    eM (Memref.isWhole_whole _) oM (Memref.isWhole_whole _) pM (Memref.isWhole_whole _) rM (Memref.isWhole_whole _) cc0_scratch2 cc0_scratch3)
      (fun _ => bodyEnd m ρ c) := by
  rw [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  refine (start_sig m ρ K c).trans ?_
  iterate 15 (refine step_signal m ρ K c _ _ (by decide) _ (by revert c; decide +kernel) _ rfl ?_)
  refine (sig_gate m ρ K c).trans ?_
  refine step_gate m ρ K c _ _ rfl ?_
  refine (open_mem m ρ K c).trans ?_
  refine step_load c Finset.univ (xstg m ρ c) (xstg m ρ c) (Finset.subset_univ _) (Memref.readAt_unit_zero (Elt F) cc0_stg0_0 off2 _ _)
    (take_ops m ρ K c (take_x m ρ c)) ?_
  refine step_load c Finset.univ (wstg m ρ c) (wstg m ρ c) (Finset.subset_univ _) (Memref.readAt_unit_zero (Elt F) cc0_stg1_0 off2 _ _)
    (take_ops m ρ K c (take_w m ρ c)) ?_
  refine step_load c Finset.univ (istg m ρ c) (col m ρ c 0) (Finset.subset_univ _) rfl (take_ops m ρ K c (take_i m ρ c)) ?_
  refine step_load c Finset.univ (istg m ρ c) (col m ρ c 1) (Finset.subset_univ _) rfl (take_ops m ρ K c (take_i m ρ c)) ?_
  refine step_load c Finset.univ (estg m ρ c) (expert m ρ c 0) (Finset.subset_univ _) rfl (take_ops m ρ K c (take_e m ρ c)) ?_
  refine step_load c Finset.univ (estg m ρ c) (expert m ρ c 1) (Finset.subset_univ _) rfl (take_ops m ρ K c (take_e m ρ c)) ?_
  refine step_load c Finset.univ (estg m ρ c) (expert m ρ c 2) (Finset.subset_univ _) rfl (take_ops m ρ K c (take_e m ρ c)) ?_
  refine step_load c Finset.univ (estg m ρ c) (expert m ρ c 3) (Finset.subset_univ _) rfl (take_ops m ρ K c (take_e m ρ c)) ?_
  refine step_load_any c any_left (fun v => ?_)
  refine step_store c (part m ρ c) (fun f => Memref.write_access_unit_zero_univ (Elt F) cc0_scratch0 off2 _ f _) swap_left ?_
  refine (mem_send m ρ K c).trans ?_
  iterate 15 (refine step_send m ρ K c _ _ (by decide) _ (by revert c; decide +kernel) _ _ (by revert c; decide +kernel) ?_)
  refine step_load c (rowM c).view.set (part m ρ c) (rowVec m ρ c c) (own_set c _ _ (k0_off2_eq c)) (own_read m ρ c _ _ (k0_off2_eq c)) (take_own m ρ K c) ?_
  refine (send_recv m ρ K c).trans ?_
  iterate 15
    refine step_recv_wait m ρ K c _ _ (by decide) ?_
    refine step_load_slot m ρ K c _ _ (by decide) ?_
  refine step_load_any c (any_out m ρ K c) (fun v => ?_)
  refine step_store c (outAt m ρ c) (fun f => Memref.write_access_unit_zero_univ (Elt F) cc0_stg4_0 off2 _ f _) (fill_out m ρ K c) ?_
  refine (recv_sent m ρ K c).trans ?_
  iterate 15 (refine step_send_wait m ρ K c _ _ (by decide) _ _ (by revert c; decide +kernel) ?_)
  unfold wpc
  rw [wp_ret]
  refine (sent_end m ρ K c).trans ?_
  iintro H
  imodintro
  iexact H
end
end Cert.Exchange

end
-- ==== Proof.Run.lean ====
/-
# The launch

What the launch deals each device, the rights to pay passed to the devices that pay, the credit each barrier and receive
cell starts with, and the run: every execution ends, with the arrays at the computed contents and every counter at zero.
-/
module

public import proofs.«01_k».proof.Proof.Body
public import Idealize.ShloMosaic.Lib.Pipeline.CollectiveSegs
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one grid point's data -/

/-- What device `c` takes into the kernel besides its buffers. -/
def start (c : Dev nD) : sProp 𝕄 :=
  iprop((∃ K, records m ρ K ∗ linear c) ∗ cred (tallyAt (barCell c) () 15) ∗ credRecv c ∗ levAts L lv)
def Φ₀ (c : Dev nD) : sProp 𝕄 := iprop(start m ρ c ∗ (∃ f, scr0 c f) ∗ (∃ f, scr1 c f))
def Φ₁ (c : Dev nD) : sProp 𝕄 :=
  iprop((∃ f, scr0 c f) ∗ (∃ f, scr1 c f) ∗ (bigSep Finset.univ fun k => semVal (kcell (c, .inr k)) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => istg m ρ c
    | ⟨3, _⟩ => estg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_of (c : Dev nD) (b : Ref sig .tc) (X : b.ty.Contents (Elt F)) : whl c b X ⊢ stg c b X := by
  iintro H; iexists X; isplitr; · ipureintro; rfl
  iexact H
/-- A staging buffer that has been filled holds what was fetched into it. -/
theorem stg_get (c : Dev nD) (b : Ref sig .tc) {ι : Type} (B : ι → b.ty.Contents (Elt F)) (X : b.ty.Contents (Elt F)) (h : ∀ d, B d = X) :
    iprop(∃ d, stg c b (B d)) ⊢ whl c b X := by
  iintro ⟨%d, %f, %hf, H⟩
  rw [h d] at hf
  subst hf
  iexact H

section Body
variable (c : Dev nD)

theorem before_x (d) : (dats m ρ 0 c).before (0 : Fin 5) t0_0 d = xstg m ρ c := by unfold Dat.before; rw [if_pos (fetch0_0 t0_0)]; rfl
theorem before_w (d) : (dats m ρ 0 c).before (1 : Fin 5) t0_0 d = wstg m ρ c := by unfold Dat.before; rw [if_pos (fetch0_1 t0_0)]; rfl
theorem before_i (d) : (dats m ρ 0 c).before (2 : Fin 5) t0_0 d = istg m ρ c := by unfold Dat.before; rw [if_pos (fetch0_2 t0_0)]; rfl
theorem before_e (d) : (dats m ρ 0 c).before (3 : Fin 5) t0_0 d = estg m ρ c := by unfold Dat.before; rw [if_pos (fetch0_3 t0_0)]; rfl

/-- The library's form of a body's start, -/
def preForm : sProp 𝕄 :=
  iprop(Φ₀ m ρ c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
/-- and of its end. -/
def postForm : sProp 𝕄 :=
  iprop(Φ₁ c ∗ (dats m ρ 0 c).owesAt () t0_0.succ
    ∗ stg c cc0_stg0_0 (xstg m ρ c) ∗ stg c cc0_stg1_0 (wstg m ρ c) ∗ stg c cc0_stg2_0 (istg m ρ c) ∗ stg c cc0_stg3_0 (estg m ρ c)
    ∗ stg c cc0_stg4_0 (outAt m ρ c))

theorem pre_start : preForm m ρ c ⊢ iprop(∃ K, bodyStart m ρ K c) := by
  unfold preForm Φ₀ start Dat.owesAt Pipeline.owesWithin
  rw [show (dats m ρ 0 c).owed t0_0.castSucc = O₀ c from rfl]
  iintro ⟨⟨⟨⟨%K, Hr, Hl⟩, H1, H2, H3⟩, H4, H5⟩, ⟨%W, %hW, HO⟩, Hx, Hw, Hi, He, ⟨%d, %f, -, Ho⟩⟩
  ihave Hx := (stg_get c cc0_stg0_0 _ _ (before_x m ρ c)) $$ Hx
  ihave Hw := (stg_get c cc0_stg1_0 _ _ (before_w m ρ c)) $$ Hw
  ihave Hi := (stg_get c cc0_stg2_0 _ _ (before_i m ρ c)) $$ Hi
  ihave He := (stg_get c cc0_stg3_0 _ _ (before_e m ρ c)) $$ He
  iexists K
  unfold bodyStart ops owesAny
  isplitl [Hr]; · iexact Hr
  isplitl [Hl]; · iexact Hl
  isplitl [H1]; · iexact H1
  isplitl [H2]; · iexact H2
  isplitl [H3]; · iexact H3
  isplitl [H4]; · iexact H4
  isplitl [H5]; · iexact H5
  isplitl [HO]; · iexists W; iexact HO
  isplitl [Hx Hw Hi He]
  · isplitl [Hx]; · iexact Hx
    isplitl [Hw]; · iexact Hw
    isplitl [Hi]; · iexact Hi
    isplitl [He]; · iexact He
    iempintro
  iexists f; iexact Ho

theorem end_post : bodyEnd m ρ c ⊢ postForm m ρ c := by
  unfold bodyEnd postForm Φ₁ ops owesAny Dat.owesAt Pipeline.owesWithin
  rw [show (dats m ρ 0 c).owed t0_0.succ = 0 from rfl]
  iintro ⟨H, ⟨%W, HO⟩, ⟨Hx, Hw, Hi, He, -⟩, Ho⟩
  isplitl [H]; · iexact H
  isplitl [HO]
  · iexists W
    isplitr; · ipureintro; exact fun _ _ => Or.inl trivial
    iexact HO
  isplitl [Hx]; · iapply (stg_of c cc0_stg0_0 (xstg m ρ c)); iexact Hx
  isplitl [Hw]; · iapply (stg_of c cc0_stg1_0 (wstg m ρ c)); iexact Hw
  isplitl [Hi]; · iapply (stg_of c cc0_stg2_0 (istg m ρ c)); iexact Hi
  isplitl [He]; · iapply (stg_of c cc0_stg3_0 (estg m ρ c)); iexact He
  iapply (stg_of c cc0_stg4_0 (outAt m ρ c)); iexact Ho

theorem body_run : preForm m ρ c ⊢ wpc c (cc0_body (F := F) xM (Memref.isWhole_whole _) wM (Memref.isWhole_whole _) iM (Memref.isWhole_whole _)
    eM (Memref.isWhole_whole _) oM (Memref.isWhole_whole _) pM (Memref.isWhole_whole _) rM (Memref.isWhole_whole _) cc0_scratch2 cc0_scratch3)
      (fun _ => postForm m ρ c) := by
  have h : ∀ K, bodyStart m ρ K c ⊢ _ := fun K => (sound_body m ρ K c).trans (wp_mono _ _ _ fun _ => end_post m ρ c)
  refine (pre_start m ρ c).trans ?_
  iintro ⟨%K, H⟩
  iapply (h K)
  iexact H

set_option maxRecDepth 8000 in
/-- The library's body obligation on device `c`. -/
theorem body_obligation : BodyObligation (dats (F := F) m ρ 0 c) (defs₀ (F := F)) 𝒱₀ () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  exact body_run m ρ c

end Body

/-! ## The launch's ghost state -/

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- A device's own cells' duties: fifteen at its barrier, one at each send cell, one at each receive cell. -/
def tokOf (cj : Dev nD × (Fin 15 ⊕ (Fin 15 ⊕ Fin 15))) : GSem nD τ sig × ℕ × Fin 15 :=
  Sum.elim (fun j => (barCell cj.1, 0, j)) (fun k => (kcell (cj.1, .inr k), 0, 0)) cj.2
theorem tokOf_injective : Function.Injective tokOf := by
  rintro ⟨c, j | k⟩ ⟨c', j' | k'⟩ h
  · have h1 : c = c' := congrArg (fun x : GSem nD τ sig × ℕ × Fin 15 => x.1.1.1) h
    have h2 : j = j' := congrArg (fun x : GSem nD τ sig × ℕ × Fin 15 => x.2.2) h
    rw [h1, h2]
  · exact absurd (congrArg (fun x : GSem nD τ sig × ℕ × Fin 15 => x.1.2) h).symm (osem_ne_bar k')
  · exact absurd (congrArg (fun x : GSem nD τ sig × ℕ × Fin 15 => x.1.2) h) (osem_ne_bar k)
  · have h1 : (c, (Sum.inr k : CI)) = (c', Sum.inr k') := kcell_injective (congrArg Prod.fst h)
    have h2 : c = c' := congrArg Prod.fst h1
    have h3 : k = k' := Sum.inr_injective (congrArg Prod.snd h1)
    rw [h2, h3]
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The rights to pay at device `c`'s own cells. -/
def toks (c : Dev nD) : sProp 𝕄 :=
  iprop((bigSep Finset.univ fun j => dutyTok ER (barCell c) 0 j) ∗ toksSend c ∗ bigSep Finset.univ fun j => dutyTok ER (recvCell c j) 0 0)

/-- What the launch deals device `c`. -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)
/-- What the devices together make of it. -/
def G' (c : Dev nD) : sProp 𝕄 := iprop(∃ K, records m ρ K ∗ linear c)

theorem bigSep_CI (Φ : CI → sProp 𝕄) : bigSep Finset.univ Φ
    = iprop(Φ (.inl ()) ∗ (bigSep Finset.univ fun j => Φ (.inr (.inl j))) ∗ bigSep Finset.univ fun j => Φ (.inr (.inr j))) := by
  rw [BI.bigSep_univ_sum, show (Finset.univ : Finset Unit) = {()} from rfl, bigSep_singleton, BI.bigSep_univ_sum]; rfl

theorem toks_eq (c : Dev nD) : (bigSep Finset.univ (fun k => dutyTok ER (tokOf (c, k)).1 (tokOf (c, k)).2.1 (tokOf (c, k)).2.2) : sProp 𝕄) = toks c := by
  rw [BI.bigSep_univ_sum, BI.bigSep_univ_sum]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m ρ) ringCells ringToks) $$ HX with ⟨Hst, Hr, Hat, Htok⟩
  imodintro
  ihave Hst' := (BIBase.Entails.of_eq (hX fun g => roundState ER (sched m ρ) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  have h : (bigSep Finset.univ (fun k : CI => semVal (kcell (c, k)) 0) : sProp 𝕄)
      = iprop(semVal (barCell c) 0 ∗ bigSep Finset.univ fun k => semVal (kcell (c, .inr k)) 0) := by
    rw [BI.bigSep_univ_sum, show (Finset.univ : Finset Unit) = {()} from rfl, bigSep_singleton]; rfl
  rw [h, unscopedSems0_eq]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- A family over devices and offsets, each device's part moved to the device the offset's turn leads from. -/
theorem turn_all (Φ : Dev nD → Fin 15 → sProp 𝕄) :
    (bigSep Finset.univ fun c => bigSep Finset.univ fun j => Φ c j) = bigSep Finset.univ fun c => bigSep Finset.univ fun j => Φ (tgt c j) j := by
  have comm (Ψ : Dev nD → Fin 15 → sProp 𝕄) :
      (bigSep Finset.univ fun c => bigSep Finset.univ fun j => Ψ c j) = bigSep Finset.univ fun j => bigSep Finset.univ fun c => Ψ c j := by
    rw [← bigSep_univ_prod (fun p : Dev nD × Fin 15 => Ψ p.1 p.2), bigSep_univ_equiv (Equiv.prodComm (Fin 15) (Dev nD)), bigSep_univ_prod]; rfl
  rw [comm, comm (fun c j => Φ (tgt c j) j)]
  exact bigSep_congr fun j _ => bigSep_univ_equiv (turn j) (fun c => Φ c j)

/-- The rights to pay, handed to the devices that pay. -/
theorem toks_around : (bigSep Finset.univ fun c : Dev nD => (toks c : sProp 𝕄))
    ⊢ bigSep Finset.univ fun c : Dev nD => iprop(toksBar c ∗ toksSend c ∗ toksRecv c) := by
  have hb : (bigSep Finset.univ (fun c : Dev nD => bigSep Finset.univ fun j => dutyTok ER (barCell c) 0 j) : sProp 𝕄)
      = bigSep Finset.univ fun c => toksBar c := by
    rw [bigSep_congr (s := Finset.univ) (fun (c : Dev nD) _ => bigSep_univ_equiv flip (fun j => (dutyTok ER (barCell c) 0 j : sProp 𝕄)))]
    exact turn_all fun c j => dutyTok ER (barCell c) 0 (opp j)
  have hr : (bigSep Finset.univ (fun c : Dev nD => bigSep Finset.univ fun j => dutyTok ER (recvCell c j) 0 0) : sProp 𝕄)
      = bigSep Finset.univ fun c => toksRecv c := turn_all fun c j => dutyTok ER (recvCell c j) 0 0
  unfold toks
  rw [bigSep_sep', bigSep_sep', bigSep_sep', bigSep_sep', hb, hr]

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_of (c : Dev nD) :
    iprop((bigSep Finset.univ fun k : CI => atPos ER (kcell (c, k)) 0 ∅ 0) ∗ toksBar c ∗ toksSend c ∗ toksRecv c) ⊢ (linear c : sProp 𝕄) := by
  unfold linear posAt
  rw [bigSep_CI]
  iintro ⟨⟨H1, H2, H3⟩, H4⟩
  isplitl [H1]; · iexact H1
  isplitl [H2]; · iexact H2
  isplitl [H3]; · iexact H3
  iexact H4

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (bigSep_with (R := records m ρ K) (Φ := fun c => linear c) (Ψ := G' m ρ) fun c _ => by
    unfold G'
    iintro ⟨Hr, Hl⟩
    iexists K
    isplitl [Hr]; · iexact Hr
    iexact Hl)
  isplitr
  · unfold records; isplitl; · iexact HI
    iexact HR
  · iapply ((BIBase.Entails.of_eq (bigSep_sep' Finset.univ (fun c : Dev nD => bigSep Finset.univ fun k : CI => (atPos ER (kcell (c, k)) 0 ∅ 0 : sProp 𝕄))
        (fun c => iprop(toksBar c ∗ toksSend c ∗ toksRecv c))).symm).trans (bigSep_mono fun c _ => linear_of c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_inj {a b : Dev nD} (h : barCell a = barCell b) : a = b := congrArg (fun g : GSem nD τ sig => g.1.1) h
theorem bar_ne_recv (a b : Dev nD) (j : Fin 15) : barCell a ≠ recvCell b j := fun h => osem_ne_bar (.inr j) (congrArg Prod.snd h).symm
theorem recv_inj {a b : Dev nD} {i j : Fin 15} (h : recvCell a i = recvCell b j) : a = b ∧ i = j :=
  ⟨congrArg (fun g : GSem nD τ sig => g.1.1) h, recvS_injective (SemLoc.dma.inj (congrArg Prod.snd h))⟩

/-- What device `d` owes device `c`'s barrier cell: a unit for each offset leading from `d` to `c`. -/
theorem owed_bar (d c : Dev nD) : O₀ d (barCell c) () = ∑ i : Fin 15, if tgt d i = c then 1 else 0 := by
  unfold O₀ owedRecv owedBar
  rw [hi_zero, Pi.add_apply, Finsupp.add_apply, Finset.sum_apply, Finset.sum_apply, Finsupp.finset_sum_apply, Finsupp.finset_sum_apply,
    Finset.sum_eq_zero fun i _ => by rw [tallyAt_ne_cell (bar_ne_recv _ _ _)]; rfl, Nat.zero_add]
  refine Finset.sum_congr rfl fun i _ => ?_
  rw [tallyAt_apply]
  by_cases h : tgt d i = c
  · rw [if_pos h, if_pos ⟨by rw [h], rfl⟩]
  · rw [if_neg h, if_neg fun h' => h (bar_inj h'.1).symm]

theorem owed_recv (d c : Dev nD) (j : Fin 15) : O₀ d (recvCell c j) () = if tgt d j = c then N else 0 := by
  unfold O₀ owedRecv owedBar
  rw [hi_zero, Pi.add_apply, Finsupp.add_apply, Finset.sum_apply, Finset.sum_apply, Finsupp.finset_sum_apply, Finsupp.finset_sum_apply,
    Finset.sum_eq_zero (f := fun i => (tallyAt (barCell (tgt d i)) () 1 : CellTallies nD τ sig Unit) (recvCell c j) ())
      fun i _ => by rw [tallyAt_ne_cell (bar_ne_recv _ _ _).symm]; rfl, Nat.add_zero,
    Finset.sum_eq_single j (fun i _ hi => by rw [tallyAt_ne_cell fun h => hi (recv_inj h).2.symm]; rfl) (fun h => absurd (Finset.mem_univ _) h), tallyAt_apply]
  by_cases h : tgt d j = c
  · rw [if_pos h, if_pos ⟨by rw [h], rfl⟩]
  · rw [if_neg h, if_neg fun h' => h (recv_inj h'.1).1.symm]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c : Dev nD) (j : Fin 15) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_eq_single (src c j) (fun d _ hd => if_neg fun h => hd (by rw [← h, src_tgt])) (fun h => absurd (Finset.mem_univ _) h), tgt_src, if_pos rfl]

theorem creds (c : Dev nD) : (Pipeline.launchCred O₀ c : sProp 𝕄) ⊢ iprop(cred (tallyAt (barCell c) () 15) ∗ credRecv c) := by
  unfold Pipeline.launchCred
  rw [bigSep_univ_at _ (SemLoc.reg barS), launch_bar]
  refine sep_mono_right ?_
  have h : (credRecv c : sProp 𝕄) = bigSep (Finset.univ.map ⟨fun j => (SemLoc.dma (recvS j) : SemLoc sig), fun i j h => recvS_injective (SemLoc.dma.inj h)⟩)
      fun sm => cred (tallyOn ((c : Thread nD τ), sm) (launchCredit (Pipeline.owing O₀) 0 ((c : Thread nD τ), sm))) := by
    rw [bigSep_map]; unfold credRecv
    exact bigSep_congr fun j _ => congrArg cred (launch_recv c j).symm
  rw [h]
  refine bigSep_subset fun sm hs => ?_
  obtain ⟨j, -, rfl⟩ := Finset.mem_map.mp hs
  exact Finset.mem_erase.mpr ⟨fun h => (by cases h), Finset.mem_univ _⟩

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0
  iintro ⟨H0, H1, Hz, HzB⟩
  isplitl [HzB]; · iexact HzB
  isplitl [Hz]; · iexact Hz
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values and from any memory with its counters at zero: every weakly fair
    execution ends, each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-! ## The arrays after the run -/

/-- The operands are as they were; -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _
/-- the result is what the body computed. -/
theorem finalA_out (c : Dev nD) : (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

end Cert.Exchange

end
-- ==== Proof.Frames.lean ====
/-
# The frames

Each program ends, leaves its arguments as they were and every counter at zero.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_finite_in_range_KernelIdeal
public import proofs.«01_k».proof.Proof.Gen.Pre_finite_in_range_ReferenceIdeal

@[expose] public section

noncomputable section

namespace Cert.Exchange

open Idealize.ShloMosaic Idealize.ShloMosaic.TcCoe Idealize.SL.Sem

variable {F : FTy → Type} [FloatOps F]

/-- The kernel's run over any float values, said at the four argument arrays: each ends as it started, on every device,
    and every counter ends at zero. -/
theorem run_frame (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2)
        ∧ r.2.mem ((c.tc : Thread _ Cert.KernelIdeal.τ).loc Cert.KernelIdeal.main_arg3) = m ((c.tc : Thread _ Cert.KernelIdeal.τ).loc Cert.KernelIdeal.main_arg3))
        ∧ r.2.sem = fun _ => 0) :=
  (θ_run Cert.KernelIdeal.defs _ _).mono
    (fun _ h => ⟨fun c => ⟨(h.1 c (0 : Fin 5)).trans (finalA_in m ρ c 0 rfl), (h.1 c (1 : Fin 5)).trans (finalA_in m ρ c 1 rfl),
      (h.1 c (2 : Fin 5)).trans (finalA_in m ρ c 2 rfl), (h.1 c (3 : Fin 5)).trans (finalA_in m ρ c 3 rfl)⟩, h.2⟩)
    (run_main m ρ)

set_option maxRecDepth 65536 in
/-- The two programs have the same body table: they are the same text. -/
theorem bodies_eq : Cert.Kernel.defs₀ (F := F) = Cert.KernelIdeal.defs₀ (F := F) :=
  congrArg (Defs.onTc (nD := Cert.KernelIdeal.nD) (τ := Cert.KernelIdeal.τ) (sig := Cert.KernelIdeal.sig) (Λ := Cert.KernelIdeal.Λ₀))
    (funext fun l => match l with | 0 => funext fun a => match a with | (_, _) => rfl)

theorem defs_eq : Cert.Kernel.defs (F := F) = Cert.KernelIdeal.defs (F := F) :=
  congrArg (Pipeline.defs Cert.KernelIdeal.pcfgs) bodies_eq

theorem frame_kernel : Cert.quiescent_Kernel := fun m ρ _ => by
  have h := run_frame (F := Bits) m ρ
  rw [← defs_eq] at h
  exact h

theorem frame_kernelIdeal : Cert.quiescent_KernelIdeal := fun m ρ _ => run_frame (F := Ideal) m ρ

theorem frame_kernelIdeal_pre : Cert.quiescent_KernelIdeal_pre_finite_in_range_KernelIdeal := fun m ρ _ => run_frame (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_reference_pre : Cert.quiescent_ReferenceIdeal_pre_finite_in_range_ReferenceIdeal := fun m ρ _ => frame_reference m ρ trivial

end Cert.Exchange

end
-- ==== Proof.Gather.lean ====
/-
# The reference's two gathers at an element

Each reads its table at the start index it is given, when that lies inside the table.
-/
module

public import proofs.«01_k».proof.Proof.Gen.ReferenceIdeal
public import Idealize.ShloMosaic.Lib.Pointwise

@[expose] public section

set_option maxRecDepth 16384

noncomputable section

namespace Cert.Mixture

open Idealize.ShloMosaic Cert.ReferenceIdeal Cert.ReferenceIdeal.Gen

/-- `probs[tok, e]`: element `t` is the table at the row and column that the two start words of row `t` name. -/
theorem gather_pair (x : S512x64.Idx → EReal) (s : IVec S512x2 32) (t : Fin 512) (a : Fin 512) (b : Fin 64)
    (ha : (s (ix2 t 0)).toInt = a) (hb : (s (ix2 t 1)).toInt = b) :
    Host.gather gather_S512x64_S512x2_S512_n_01_n_n_01_1_11 x s (ix1 t) = x (ix2 a b) := by
  have h0 : (gather_S512x64_S512x2_S512_n_01_n_n_01_1_11.siIdx (ix1 t) (0 : Fin 2)) = ix2 t 0 := by
    funext b; apply Fin.ext; fin_cases b <;> rfl
  have h1 : (gather_S512x64_S512x2_S512_n_01_n_n_01_1_11.siIdx (ix1 t) (1 : Fin 2)) = ix2 t 1 := by
    funext b; apply Fin.ext; fin_cases b <;> rfl
  unfold Host.gather
  congr 1
  funext k
  apply Fin.ext
  fin_cases k
  · show min (s (gather_S512x64_S512x2_S512_n_01_n_n_01_1_11.siIdx (ix1 t) (0 : Fin 2))).toInt.toNat (512 - 1) + 0 + 0 = (a : ℕ)
    rw [h0, ha]; simp; omega
  · show min (s (gather_S512x64_S512x2_S512_n_01_n_n_01_1_11.siIdx (ix1 t) (1 : Fin 2))).toInt.toNat (64 - 1) + 0 + 0 = (b : ℕ)
    rw [h1, hb]; simp; omega

/-- `expert_W[e]`: element `(t, k, h)` is the table at the matrix that the start word of row `t` names. -/
theorem gather_matrix (x : S64x256x512.Idx → EReal) (s : IVec S512x1 32) (t : Fin 512) (k : Fin 256) (h : Fin 512) (a : Fin 64)
    (ha : (s (ix2 t 0)).toInt = a) :
    Host.gather gather_S64x256x512_S512x1_S512x256x512_12_0_n_n_0_1_1256512 x s (ix3 t k h) = x (ix3 a k h) := by
  have h0 : (gather_S64x256x512_S512x1_S512x256x512_12_0_n_n_0_1_1256512.siIdx (ix3 t k h) (0 : Fin 1)) = ix2 t 0 := by
    funext b; apply Fin.ext; fin_cases b <;> rfl
  unfold Host.gather
  congr 1
  funext r
  apply Fin.ext
  fin_cases r
  · show min (s (gather_S64x256x512_S512x1_S512x256x512_12_0_n_n_0_1_1256512.siIdx (ix3 t k h) (0 : Fin 1))).toInt.toNat (64 - 1) + 0 + 0 = (a : ℕ)
    rw [h0, ha]; simp; omega
  · show 0 + 0 + (k : ℕ) = k
    simp
  · show 0 + 0 + (h : ℕ) = h
    simp

end Cert.Mixture

end
-- ==== Proof.Mixture.lean ====
/-
# The equation

The mathematics, away from both programs. A row's router weights are the exponentials of its scores less the largest;
with finite scores they are positive reals. Mixing the experts by the selected weights over their sum is the same as
mixing the two chosen experts by their softmax probabilities, renormalised over the two.
-/
module

public import Idealize.ShloMosaic.Lib.Pointwise
public import Mathlib.Tactic.FieldSimp

@[expose] public section

noncomputable section

namespace Cert.Mixture

open Idealize.ShloMosaic

/-- Neither infinity. -/
def Finite (x : EReal) : Prop := x ≠ ⊤ ∧ x ≠ ⊥

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Finite extended reals are real functions. -/
theorem exists_real {ι : Type} (f : ι → EReal) (h : ∀ i, Finite (f i)) : ∃ g : ι → ℝ, ∀ i, f i = g i :=
  ⟨fun i => (f i).toReal, fun i => (EReal.coe_toReal (h i).1 (h i).2).symm⟩

/-- A contraction of finite numbers is finite. -/
theorem finite_dot {n : ℕ} (f g : Fin n → EReal) (hf : ∀ i, Finite (f i)) (hg : ∀ i, Finite (g i)) :
    Finite (∑ i, f i * g i) := by
  obtain ⟨f', hf'⟩ := exists_real f hf
  obtain ⟨g', hg'⟩ := exists_real g hg
  have : ∑ i, f i * g i = ((∑ i, f' i * g' i : ℝ) : EReal) := by
    rw [coe_sum]; exact Finset.sum_congr rfl fun i _ => by rw [hf', hg', EReal.coe_mul]
  rw [this]
  exact ⟨EReal.coe_ne_top _, EReal.coe_ne_bot _⟩

/-- The exponential of a score less the greatest of its row. -/
def weight {n : ℕ} (s : Fin n → EReal) (e : Fin n) : EReal :=
  Ideal.exp (s e - Finset.univ.fold max (Ideal.ofBits .f32 0xFF800000#32) s)

theorem negInf : Ideal.ofBits .f32 0xFF800000#32 = ⊥ := by simp [Ideal.ofBits, Ideal.ieee]

/-- With finite scores the weights are positive reals. -/
theorem weight_pos {n : ℕ} (s : Fin n → EReal) (h : ∀ e, Finite (s e)) :
    ∃ E : Fin n → ℝ, (∀ e, 0 < E e) ∧ ∀ e, weight s e = E e := by
  obtain ⟨r, hr⟩ := exists_real s h
  by_cases hn : Nonempty (Fin n)
  · obtain ⟨e₀⟩ := hn
    have hM : Finite (Finset.univ.fold max (Ideal.ofBits .f32 0xFF800000#32) s) := by
      rw [negInf]
      refine ⟨ne_of_lt ?_, ne_of_gt ?_⟩
      · exact (Finset.fold_max_lt ⊤).2 ⟨bot_lt_top, fun e _ => lt_top_iff_ne_top.2 (h e).1⟩
      · exact (Finset.lt_fold_max ⊥).2 (.inr ⟨e₀, Finset.mem_univ _, bot_lt_iff_ne_bot.2 (h e₀).2⟩)
    obtain ⟨M, hM⟩ : ∃ M : ℝ, Finset.univ.fold max (Ideal.ofBits .f32 0xFF800000#32) s = M :=
      ⟨_, (EReal.coe_toReal hM.1 hM.2).symm⟩
    refine ⟨fun e => Real.exp (r e - M), fun e => Real.exp_pos _, fun e => ?_⟩
    unfold weight
    rw [hM, hr e, ← EReal.coe_sub, Ideal.exp_coe]
  · exact ⟨fun _ => 1, fun _ => one_pos, fun e => (hn ⟨e⟩).elim⟩

/-- A quotient of reals with a divisor that is not zero. -/
theorem div_real (x y : ℝ) (hy : y ≠ 0) : Ideal.div x y = ((x / y : ℝ) : EReal) := by
  rw [Ideal.div_coe hy, ← EReal.coe_mul]; congr 1; field_simp

/-- One where the expert is one of the two chosen, zero elsewhere. -/
def chosen {n : ℕ} (a b e : Fin n) : ℝ := if e = a ∨ e = b then 1 else 0

/-- The mixing factor of an expert: its selected weight over the selected weights' sum. -/
def factor {n : ℕ} (w : Fin n → EReal) (a b e : Fin n) : EReal :=
  Ideal.div (chosen a b e * w e) (∑ i, chosen a b i * w i)

/-- The reference's mixture: the two softmax probabilities, renormalised, times the two experts' values. -/
def renormalised {n : ℕ} (w : Fin n → EReal) (a b : Fin n) (Y : Fin n → EReal) : EReal :=
  let p e := Ideal.div (w e) (∑ i, w i)
  Ideal.div (p a) (p a + p b) * Y a + Ideal.div (p b) (p a + p b) * Y b

theorem sum_chosen {n : ℕ} (E : Fin n → ℝ) (a b : Fin n) :
    ∑ i, chosen a b i * E i = if a = b then E a else E a + E b := by
  unfold chosen
  simp only [ite_mul, one_mul, zero_mul]
  rw [← Finset.sum_filter]
  split_ifs with h
  · subst h; simp [Finset.filter_eq']
  · have : (Finset.univ.filter fun i => i = a ∨ i = b) = {a, b} := by ext; simp
    rw [this, Finset.sum_pair h]

/-- **The two mixtures agree**, whatever the experts' values, when the weights are positive reals. -/
theorem mixture_eq {n : ℕ} (w : Fin n → EReal) (E : Fin n → ℝ) (hpos : ∀ e, 0 < E e) (hw : ∀ e, w e = E e) (a b : Fin n)
    (Y : Fin n → EReal) : ∑ e, Y e * factor w a b e = renormalised w a b Y := by
  obtain rfl : w = fun e => (E e : EReal) := funext hw
  have hS : 0 < ∑ i, E i := Finset.sum_pos (fun i _ => hpos i) ⟨a, Finset.mem_univ _⟩
  have hC : (∑ i, chosen a b i * E i) ≠ 0 := by
    rw [sum_chosen]; split_ifs
    · exact (hpos a).ne'
    · exact (add_pos (hpos a) (hpos b)).ne'
  have hf : ∀ e, factor (fun e => (E e : EReal)) a b e = ((chosen a b e * E e / ∑ i, chosen a b i * E i : ℝ) : EReal) := fun e => by
    unfold factor
    rw [← div_real _ _ hC, coe_sum]
    simp only [EReal.coe_mul]
  have hp : ∀ e, Ideal.div (E e) (∑ i, (E i : EReal)) = ((E e / ∑ i, E i : ℝ) : EReal) := fun e => by
    rw [← coe_sum, div_real _ _ hS.ne']
  have hq : ∀ e, 0 < E e / ∑ i, E i := fun e => div_pos (hpos e) hS
  unfold renormalised
  simp only [hf, hp, ← EReal.coe_add]
  rw [div_real _ _ (add_pos (hq a) (hq b)).ne', div_real _ _ (add_pos (hq a) (hq b)).ne', sum_chosen]
  by_cases h : a = b
  · subst h
    rw [if_pos rfl, Finset.sum_eq_single a, ← EReal.right_distrib_of_nonneg, ← EReal.coe_add, mul_comm]
    · congr 2
      have := (hpos a).ne'
      have := hS.ne'
      simp only [chosen, or_self, if_true]
      field_simp
    · exact EReal.coe_nonneg.2 (div_nonneg (hq a).le (add_pos (hq a) (hq a)).le)
    · exact EReal.coe_nonneg.2 (div_nonneg (hq a).le (add_pos (hq a) (hq a)).le)
    · intro e _ he; simp [chosen, he]
    · simp
  · rw [if_neg h, Fintype.sum_eq_add a b h, mul_comm (Y a), mul_comm (Y b)]
    · have := (add_pos (hpos a) (hpos b)).ne'
      have := hS.ne'
      congr 3
      · simp only [chosen, true_or, if_true]; field_simp
      · simp only [chosen, or_true, if_true]; field_simp
    · rintro e ⟨ha, hb⟩; simp [chosen, ha, hb]

end Cert.Mixture

end
-- ==== Proof.Reference.lean ====
/-
# What the reference computes

The reference's composed term, cut into its steps, and each step at an element: every row is the renormalised mixture
of the two experts that its index words name.
-/
module

public import proofs.«01_k».proof.Proof.Gen.ReferenceIdeal.Run
public import proofs.«01_k».proof.Proof.Gather
public import proofs.«01_k».proof.Proof.Mixture

@[expose] public section

set_option maxRecDepth 16384

noncomputable section

namespace Cert.Mixture

open Idealize.ShloMosaic Idealize.ShloMosaic.TcCoe Cert.ReferenceIdeal Cert.ReferenceIdeal.Gen

/-- The score of expert `e` for token `t`. -/
def score (X : S512x256.Idx → EReal) (W : S256x64.Idx → EReal) (t : Fin 512) (e : Fin 64) : EReal :=
  ∑ k : Fin 256, X (ix2 t k) * W (ix2 k e)

/-- Expert `e`'s value for token `t` at column `h`. -/
def value (X : S512x256.Idx → EReal) (E : S64x256x512.Idx → EReal) (t : Fin 512) (h : Fin 512) (e : Fin 64) : EReal :=
  ∑ k : Fin 256, X (ix2 t k) * E (ix3 e k h)

variable (X : FVec Ideal S512x256 .bf16) (W : FVec Ideal S256x64 .bf16) (E : FVec Ideal S64x256x512 .bf16) (v : IVec S512 32)

def refScores : FVec Ideal S512x64 .f32 :=
  Host.dotGeneral dot_S512x256_S256x64_S512x64_1_0_0_1_n_n none (extf .f32 X bitsLt_bf16_f32) (extf .f32 W bitsLt_bf16_f32)

def refExps : FVec Ideal S512x64 .f32 :=
  Host.exp (subf (refScores X W) (broadcastInDim S512x64 ![0, 1] bcast_S512x1_S512x64_0_1 (broadcastInDim S512x1 ![0]
    bcast_S512_S512x1_0 (Host.reduce FloatOps.maximumf (refScores X W) (constant S_ .f32 0xFF800000#32) reducesTo_S512x64_S512_d1 h_S_))))

def refProbs : FVec Ideal S512x64 .f32 :=
  Host.divf (refExps X W) (broadcastInDim S512x64 ![0, 1] bcast_S512x1_S512x64_0_1 (broadcastInDim S512x1 ![0] bcast_S512_S512x1_0
    (Host.reduceAdd (refExps X W) (constant S_ .f32 0x00000000#32) reducesTo_S512x64_S512_d1 h_S_)))

/-- An index word, with `n` added to a negative one. -/
def wrapped (n : BitVec 32) : IVec S512 32 :=
  select (cmpi .slt v (broadcastInDim S512 ![] bcast_S_S512 (constantI S_ 32 0#32)))
    (addi v (broadcastInDim S512 ![] bcast_S_S512 (constantI S_ 32 n))) v

def starts : IVec S512x2 32 :=
  concatenate S512x2 1 [⟨S512x1, broadcastInDim S512x1 ![0] bcast_S512_S512x1_0 (wrapped (iotaInDim S512 32 0) 512#32)⟩,
    ⟨S512x1, broadcastInDim S512x1 ![0] bcast_S512_S512x1_0 (wrapped v 64#32)⟩] concatenates_S512x1_S512x1_S512x2_d1

def refPick : FVec Ideal S512 .f32 :=
  Host.gather gather_S512x64_S512x2_S512_n_01_n_n_01_1_11 (refProbs X W) (starts v)

def refRows : FVec Ideal S512x512 .f32 :=
  Host.dotGeneral dot_S512x256_S512x256x512_S512x512_1_1_n_2_0_0 none (extf .f32 X bitsLt_bf16_f32)
    (Host.gather gather_S64x256x512_S512x1_S512x256x512_12_0_n_n_0_1_1256512 (extf .f32 E bitsLt_bf16_f32)
      (broadcastInDim S512x1 ![0] bcast_S512_S512x1_0 (wrapped v 64#32)))

/-- One chosen expert's share, `v` of the two words `v`, `u`. -/
def refShare (u₀ u₁ : IVec S512 32) : FVec Ideal S512x512 .f32 :=
  mulf (broadcastInDim S512x512 ![0, 1] bcast_S512x1_S512x512_0_1 (broadcastInDim S512x1 ![0] bcast_S512_S512x1_0
    (Host.divf (refPick X W v) (addf (refPick X W u₀) (refPick X W u₁))))) (refRows X E v)

def refTerm (u₀ u₁ : IVec S512 32) : FVec Ideal S512x512 .f32 :=
  addf (refShare X W E u₀ u₀ u₁) (refShare X W E u₁ u₀ u₁)

def word0 (I : IVec S512x2 32) : IVec S512 32 :=
  shapeCast S512 (extractStridedSlice S512x1 ![0, 0] I slices_S512x2_S512x1_0_0) shapeCasts_S512x1_S512

def word1 (I : IVec S512x2 32) : IVec S512 32 :=
  shapeCast S512 (extractStridedSlice S512x1 ![0, 1] I slices_S512x2_S512x1_0_1) shapeCasts_S512x1_S512

/-- The generated term is these steps. -/
theorem res_eq (m : (ℓ : Loc nD τ sig) → Buf (Elt Ideal) ℓ) (c : Dev nD) :
    Cert.ReferenceIdeal.Value.res_main_v71 m c
      = refTerm (m (c.tc.loc main_arg0)) (m (c.tc.loc main_arg1)) (m (c.tc.loc main_arg3))
          (word0 (m (c.tc.loc main_arg2))) (word1 (m (c.tc.loc main_arg2))) := rfl

theorem refScores_at (t : Fin 512) (e : Fin 64) : refScores X W (ix2 t e) = score X W t e := by
  pointwise [refScores]
  rfl

theorem refExps_at (t : Fin 512) (e : Fin 64) : refExps X W (ix2 t e) = weight (score X W t) e := by
  pointwise [refExps, refScores]
  rfl

theorem refProbs_at (t : Fin 512) (e : Fin 64) :
    refProbs X W (ix2 t e) = Ideal.div (weight (score X W t) e) (∑ i, weight (score X W t) i) := by
  pointwise [refProbs, refExps, refScores]
  rfl

theorem word0_at (I : IVec S512x2 32) (t : Fin 512) : word0 I (ix1 t) = I (ix2 t 0) := by pointwise [word0]

theorem word1_at (I : IVec S512x2 32) (t : Fin 512) : word1 I (ix1 t) = I (ix2 t 1) := by pointwise [word1]

/-- A word that is not negative stays. -/
theorem wrapped_at (n : BitVec 32) (t : Fin 512) (a : ℕ) (ha : a < 512) (h : v (ix1 t) = BitVec.ofNat 32 a) :
    (wrapped v n (ix1 t)).toInt = a := by
  have e : wrapped v n (ix1 t) = if (v (ix1 t)).slt 0#32 then v (ix1 t) + n else v (ix1 t) := by
    pointwise [wrapped]
    unfold Scalar.select IntOp.cmpi IntOp.addi
    by_cases hs : (v (ix1 t)).slt 0#32 <;> simp [hs]
  have hn : (BitVec.ofNat 32 a).toInt = a := by
    rw [BitVec.toInt_eq_toNat_of_lt] <;> simp [BitVec.toNat_ofNat] <;> omega
  rw [e, h, if_neg, hn]
  rw [BitVec.slt_eq_decide, hn]
  simp

theorem starts_at0 (t : Fin 512) : (starts v (ix2 t 0)).toInt = t.val := by
  have : starts v (ix2 t 0) = wrapped (iotaInDim S512 32 0) 512#32 (ix1 t) := by
    pointwise [starts]
  rw [this]
  exact wrapped_at _ _ t t t.2 rfl

theorem starts_at1 (t : Fin 512) : starts v (ix2 t 1) = wrapped v 64#32 (ix1 t) := by
  pointwise [starts]

theorem refPick_at (t : Fin 512) (a : Fin 64) (h : v (ix1 t) = BitVec.ofNat 32 a) :
    refPick X W v (ix1 t) = Ideal.div (weight (score X W t) a) (∑ i, weight (score X W t) i) := by
  rw [← refProbs_at]
  refine gather_pair _ _ t t a (starts_at0 v t) ?_
  rw [starts_at1]
  exact wrapped_at v _ t a (by omega) h

theorem refRows_at (t h : Fin 512) (a : Fin 64) (ha : v (ix1 t) = BitVec.ofNat 32 a) :
    refRows X E v (ix2 t h) = value X E t h a := by
  pointwise [refRows]
  refine Finset.sum_congr rfl fun k _ => ?_
  rw [gather_matrix _ _ t k h a]
  · rfl
  · show (broadcastInDim S512x1 ![0] bcast_S512_S512x1_0 (wrapped v 64#32) (ix2 t 0)).toInt = a
    have : broadcastInDim S512x1 ![0] bcast_S512_S512x1_0 (wrapped v 64#32) (ix2 t 0) = wrapped v 64#32 (ix1 t) := by pointwise []
    rw [this]
    exact wrapped_at v _ t a (by omega) ha

/-- **The reference at an element.** -/
theorem refTerm_at (u₀ u₁ : IVec S512 32) (t h : Fin 512) (a b : Fin 64) (ha : u₀ (ix1 t) = BitVec.ofNat 32 a)
    (hb : u₁ (ix1 t) = BitVec.ofNat 32 b) :
    refTerm X W E u₀ u₁ (ix2 t h) = renormalised (weight (score X W t)) a b (value X E t h) := by
  pointwise [refTerm, refShare]
  rw [refPick_at X W u₀ t a ha, refPick_at X W u₁ t b hb, refRows_at X E u₀ t h a ha, refRows_at X E u₁ t h b hb]
  rfl

end Cert.Mixture

end
-- ==== Proof.Block.lean ====
/-
# What one device's block computes

At each element: the router's mixing factors of the device's four experts, the partial sum over those four, and the
sums that add the slots up.
-/
module

public import proofs.«01_k».proof.Proof.Protocol
public import proofs.«01_k».proof.Proof.Reference

@[expose] public section

set_option maxRecDepth 16384

noncomputable section

namespace Cert.Mixture

open Idealize.ShloMosaic Idealize.ShloMosaic.TcCoe Cert.KernelIdeal Cert.KernelIdeal.Gen
open Cert.Exchange (devWord)

/-- Expert `l` of device `d`, among the sixty-four. -/
def owned (d : Fin 16) (l : Fin 4) : Fin 64 := ⟨4 * d.val + l.val, by omega⟩

/-- A flag word read as a number. -/
theorem flag_real (b : BitVec 1) : (FloatOps.sitofp (F := Ideal) FTy.f32 (BitVec.setWidth 32 b) : EReal) = if b = 1#1 then 1 else 0 := by
  have : ∀ b : BitVec 1, (BitVec.setWidth 32 b).toInt = if b = 1#1 then 1 else 0 := by decide
  show (((BitVec.setWidth 32 b).toInt : ℝ) : EReal) = _
  rw [this]
  split_ifs <;> simp

/-- Expert numbers and their words correspond. -/
theorem word_inj (a b : Fin 64) : BitVec.ofNat 32 a.val = BitVec.ofNat 32 b.val ↔ a = b := by
  refine ⟨fun h => Fin.ext ?_, fun h => h ▸ rfl⟩
  have := congrArg BitVec.toNat h
  simp only [BitVec.toNat_ofNat] at this
  omega

theorem cmpi_eq_one (x y : BitVec 32) : IntOp.cmpi .eq x y = 1#1 ↔ x = y := by
  unfold IntOp.cmpi
  by_cases h : x = y
  · simp [h]
  · simp [h, beq_eq_false_iff_ne.2 h]

/-- The word of an owned expert. -/
theorem owned_word (c : Dev nD) (l : Fin 4) :
    IntOp.addi (Scalar.muli (devWord c) 4#32) (BitVec.ofNat 32 l.val) = BitVec.ofNat 32 (owned c l).val := by
  revert c l; decide

/-- The selection's flag. -/
theorem chosen_real (e a b : Fin 64) :
    (FloatOps.sitofp (F := Ideal) FTy.f32 (BitVec.setWidth 32 (IntOp.ori (IntOp.cmpi .eq (BitVec.ofNat 32 e.val) (BitVec.ofNat 32 a.val))
      (IntOp.cmpi .eq (BitVec.ofNat 32 e.val) (BitVec.ofNat 32 b.val)))) : EReal) = (chosen a b e : EReal) := by
  have or_one : ∀ x y : BitVec 1, IntOp.ori x y = 1#1 ↔ x = 1#1 ∨ y = 1#1 := by decide
  rw [flag_real]
  simp only [or_one, cmpi_eq_one, word_inj, chosen]
  split_ifs <;> simp

/-- **The mixing factors** of the device's experts. -/
theorem factors_at (c : Dev nD) (x : Vec Ideal S512x256 .bf16) (w : Vec Ideal S256x64 .bf16) (i0 i1 : Vec Ideal S512x1 .i32)
    (t : Fin 512) (l : Fin 4) (a b : Fin 64) (ha : i0 (ix2 t 0) = BitVec.ofNat 32 a.val) (hb : i1 (ix2 t 0) = BitVec.ofNat 32 b.val) :
    (k0_pay2 (F := Ideal) (devWord c) x w i0 i1 (ix2 t l) : EReal) = factor (weight (score x w t)) a b (owned c l) := by
  have key : ∀ e : Fin 64, (FloatOps.sitofp (F := Ideal) FTy.f32 (BitVec.setWidth 32 (IntOp.cmpi .eq (BitVec.ofNat 32 e.val)
      (IntOp.addi (Scalar.muli (devWord c) 4#32) (BitVec.ofNat 32 l.val)))) : EReal) = if owned c l = e then 1 else 0 := fun e => by
    rw [owned_word, flag_real]
    simp only [cmpi_eq_one, word_inj, @eq_comm _ e]
  pointwise [k0_pay2, k0_pay1]
  simp only [ha, hb, key, chosen_real, mul_ite, mul_one, mul_zero, Finset.sum_ite_eq, Finset.mem_univ, if_true]
  rfl

/-- **The partial sum** over the device's four experts. -/
theorem partial_at (x : Vec Ideal S512x256 .bf16) (g : FVec Ideal S512x4 .f32) (y : Fin 4 → Vec Ideal S1x256x512 .bf16)
    (t h : Fin 512) :
    (k0_pay3 (F := Ideal) (k0_pay1 x) g (Scalar.ofBits .f32 0x00000000#32) (y 0) (y 1) (y 2) (y 3) (ix2 t h) : EReal)
      = ∑ l : Fin 4, (∑ k : Fin 256, x (ix2 t k) * y l (ix3 0 k h)) * g (ix2 t l) := by
  rw [Fin.sum_univ_four]
  pointwise [k0_pay3, k0_pay1]

/-- The slots added up, in the kernel's order. -/
theorem total_at (o : Vec Ideal S32x512 .bf16) (s : Fin 15 → Vec Ideal S1x32x512 .bf16) (r : Fin 32) (h : Fin 512) :
    (k0_pay10 (F := Ideal) (k0_pay9 (k0_pay8 (k0_pay7 (k0_pay6 (k0_pay5 (k0_pay4 o (s 0)) (s 1) (s 2) (s 3)) (s 4) (s 5)) (s 6) (s 7) (s 8))
      (s 9) (s 10)) (s 11) (s 12) (s 13)) (s 14) (ix2 r h) : EReal) = (o (ix2 r h) : EReal) + ∑ j : Fin 15, (s j (ix3 0 r h) : EReal) := by
  pointwise [k0_pay10, k0_pay9, k0_pay8, k0_pay7, k0_pay6, k0_pay5, k0_pay4]
  simp only [Fin.sum_univ_succ, Fin.sum_univ_zero, add_zero, add_assoc]
  rfl

end Cert.Mixture

end
-- ==== Proof.Arrays.lean ====
/-
# What the arrays hold

The contents the protocol names, read at an element of a device's arguments, and the value every device ends with.
-/
module

public import proofs.«01_k».proof.Proof.Block
public import Idealize.ShloMosaic.Lib.Memref

@[expose] public section

set_option maxRecDepth 16384

noncomputable section

namespace Cert.Mixture

open Idealize.ShloMosaic Idealize.ShloMosaic.TcCoe Cert.KernelIdeal Cert.KernelIdeal.Gen
open Cert.Exchange

section Reads

variable {F : FTy → Type} [FloatOps F] (m : (ℓ : Loc nD τ sig) → Buf (Elt F) ℓ) (ρ : Dev nD → PrngReg) (c : Dev nD)

/-- The staged arguments are the arguments. -/
theorem xstg_eq : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem wstg_eq : wstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem istg_eq : istg m ρ c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

theorem estg_eq : estg m ρ c = m ((c : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _

/-- A column of the routing words at a token. -/
theorem col_at (k : Fin 2) (t : Fin 512) : col m ρ c k (ix2 t 0) = m ((c : Thread nD τ).loc main_arg2) (ix2 t k) := by
  rw [← istg_eq m ρ c]
  show istg m ρ c _ = istg m ρ c _
  congr 1
  funext a; apply Fin.ext
  fin_cases a
  · show 0 + 1 * t.val = t.val
    omega
  · show k.val + 1 * 0 = k.val
    omega

/-- A local expert's matrix at an element. -/
theorem expert_at (l : Fin 4) (k : Fin 256) (h : Fin 512) :
    expert m ρ c l (ix3 0 k h) = m ((c : Thread nD τ).loc main_arg3) (ix3 l k h) := by
  rw [← estg_eq m ρ c]
  show estg m ρ c _ = estg m ρ c _
  congr 1
  funext a; apply Fin.ext
  fin_cases a
  · show l.val + 1 * 0 = l.val
    omega
  · show 0 + 1 * k.val = k.val
    omega
  · show 0 + 1 * h.val = h.val
    omega

/-- Row `r` of the block that belongs to device `d`. -/
def row (d : Fin 16) (r : Fin 32) : Fin 512 := ⟨32 * d.val + r.val, by omega⟩

theorem rowVec_at (b d : Dev nD) (r : Fin 32) (h : Fin 512) : rowVec m ρ b d (ix2 r h) = part m ρ b (ix2 (row d r) h) := by
  show part m ρ b _ = part m ρ b _
  congr 1
  funext a; apply Fin.ext
  fin_cases a
  · show 32 * d.val + 1 * r.val = 32 * d.val + r.val
    omega
  · show 0 + 1 * h.val = h.val
    omega

theorem unsq_at (X : Vec F S32x512 .bf16) (r : Fin 32) (h : Fin 512) : unsq X (ix3 0 r h) = X (ix2 r h) := by
  have e : unsq X = shapeCast S1x32x512 X slot_numel.symm := rfl
  rw [e]
  pointwise []

end Reads

/-- A device and the fifteen it hears from are all of them. -/
theorem sum_devices (f : Fin 16 → EReal) (c : Dev nD) : f c + ∑ j : Fin 15, f (src c j) = ∑ d, f d := by
  have hu : ∀ c : Dev nD, (Finset.univ : Finset (Fin 16)) = insert c (Finset.univ.image (src c)) := by decide
  have hc : ∀ c : Dev nD, c ∉ (Finset.univ : Finset (Fin 15)).image (src c) := by decide
  have hi : ∀ c : Dev nD, Function.Injective (src c) := by decide
  rw [hu c, Finset.sum_insert (hc c), Finset.sum_image fun _ _ _ _ h => hi c h]

/-- The devices' experts are all the experts. -/
theorem sum_owned (f : Fin 64 → EReal) : ∑ d : Fin 16, ∑ l : Fin 4, f (owned d l) = ∑ e, f e := by
  rw [← Fintype.sum_prod_type' fun d l => f (owned d l)]
  refine Fintype.sum_equiv (finProdFinEquiv (m := 16) (n := 4)) _ _ fun x => congrArg f (Fin.ext ?_)
  show 4 * x.1.val + x.2.val = x.2.val + 4 * x.1.val
  omega

section Value

variable (m : (ℓ : Loc nD τ sig) → Buf (Elt Ideal) ℓ) (ρ : Dev nD → PrngReg)
  (X : S512x256.Idx → EReal) (W : S256x64.Idx → EReal) (E : Cert.ReferenceIdeal.S64x256x512.Idx → EReal)
  (hX : ∀ c : Dev nD, m ((c : Thread nD τ).loc main_arg0) = X) (hW : ∀ c : Dev nD, m ((c : Thread nD τ).loc main_arg1) = W)
  (hE : ∀ (c : Dev nD) (l : Fin 4) (k : Fin 256) (h : Fin 512),
    (m ((c : Thread nD τ).loc main_arg3) (ix3 l k h) : EReal) = E (ix3 (owned c l) k h))

include hX hW hE in
/-- A device's partial result at an element: its four experts' values times their mixing factors. -/
theorem part_at (c : Dev nD) (t h : Fin 512) (a b : Fin 64)
    (ha : m ((c : Thread nD τ).loc main_arg2) (ix2 t 0) = BitVec.ofNat 32 a.val)
    (hb : m ((c : Thread nD τ).loc main_arg2) (ix2 t 1) = BitVec.ofNat 32 b.val) :
    (part m ρ c (ix2 t h) : EReal)
      = ∑ l : Fin 4, value X E t h (owned c l) * factor (weight (score X W t)) a b (owned c l) := by
  refine (partial_at (xstg m ρ c) _ (expert m ρ c) t h).trans (Finset.sum_congr rfl fun l _ => ?_)
  rw [factors_at c _ _ _ _ t l a b ((col_at m ρ c 0 t).trans ha) ((col_at m ρ c 1 t).trans hb), xstg_eq, wstg_eq, hX, hW]
  congr 1
  exact Finset.sum_congr rfl fun k _ => by rw [expert_at, hE]

include hX hW hE in
/-- **What a device ends with**: the renormalised mixture of each of its rows. -/
theorem outAt_at (hfX : ∀ i, Finite (X i)) (hfW : ∀ i, Finite (W i)) (a b : Fin 512 → Fin 64)
    (ha : ∀ (c : Dev nD) t, m ((c : Thread nD τ).loc main_arg2) (ix2 t 0) = BitVec.ofNat 32 (a t).val)
    (hb : ∀ (c : Dev nD) t, m ((c : Thread nD τ).loc main_arg2) (ix2 t 1) = BitVec.ofNat 32 (b t).val)
    (c : Dev nD) (r : Fin 32) (h : Fin 512) :
    (outAt m ρ c (ix2 r h) : EReal)
      = renormalised (weight (score X W (row c r))) (a (row c r)) (b (row c r)) (value X E (row c r) h) := by
  obtain ⟨w, hpos, hw⟩ := weight_pos (score X W (row c r)) fun e => finite_dot _ _ (fun _ => hfX _) (fun _ => hfW _)
  rw [← mixture_eq _ w hpos hw, ← sum_owned]
  refine (total_at (rowVec m ρ c c) (slotVec m ρ c) r h).trans ?_
  have hs : ∀ j : Fin 15, (slotVec m ρ c j (ix3 0 r h) : EReal) = part m ρ (src c j) (ix2 (row c r) h) := fun j =>
    (unsq_at _ r h).trans (rowVec_at m ρ (src c j) c r h)
  simp only [hs]
  rw [rowVec_at]
  refine (sum_devices (fun d => part m ρ d (ix2 (row c r) h)) c).trans (Finset.sum_congr rfl fun d _ => ?_)
  exact part_at m ρ X W E hX hW hE d (row c r) h _ _ (ha d _) (hb d _)

end Value

end Cert.Mixture

end
-- ==== Proof.Condition.lean ====
/-
# What the precondition says

The activations and the router's weights are finite, and every index word names one of the sixty-four experts.
-/
module

public import proofs.«01_k».proof.Pre_finite_in_range_KernelIdeal
public import proofs.«01_k».proof.Proof.Mixture
public import Idealize.ShloMosaic.Lib.ReduceAll

@[expose] public section

set_option maxRecDepth 16384

noncomputable section

namespace Cert.Mixture

open Idealize.ShloMosaic Cert.Pre_finite_in_range_KernelIdeal

/-- An absolute value below the infinity's pattern is finite. -/
theorem finite_of_flag (x : EReal) (h : FloatOps.cmpf (F := Ideal) (φ := .bf16) .olt (FloatOps.absf (F := Ideal) (φ := .bf16) x) (FloatOps.ofBits (F := Ideal) .bf16 0x7F80#16) = 1#1) : Finite x := by
  have e : Ideal.ofBits .bf16 0x7F80#16 = ⊤ := by simp [Ideal.ofBits, Ideal.ieee]
  replace h : Ideal.cmp .olt (max x (-x)) (Ideal.ofBits .bf16 0x7F80#16) = 1#1 := h
  rw [e] at h
  refine ⟨?_, ?_⟩ <;> rintro rfl <;> simp [Ideal.cmp] at h

variable [Facts] (x : FVec Ideal S512x256 .bf16) (w : FVec Ideal S256x64 .bf16) (i : IVec S512x2 32) (e : FVec Ideal S4x256x512 .bf16)
  (h : fn x w i e = fun _ => 1#1)

include h in
theorem condition_split (t : Fin 512) (k : Fin 2) : (∀ j, Finite (x j)) ∧ (∀ j, Finite (w j)) ∧ ∃ a : Fin 64, i (ix2 t k) = BitVec.ofNat 32 a.val := by
  have h := congrFun h (ix2 t k)
  unfold fn at h
  obtain ⟨hf, hi⟩ := IntOp.andi_eq_one.1 h
  obtain ⟨hx, hw⟩ := IntOp.andi_eq_one.1 hf
  obtain ⟨h0, h1⟩ := IntOp.andi_eq_one.1 hi
  haveI : Subsingleton S_.Idx := ⟨fun a b => funext fun z => z.elim0⟩
  refine ⟨fun j => ?_, fun j => ?_, ?_⟩
  · have := Host.reduce_andi_all _ _ _ _ _ hx j
    exact finite_of_flag _ this
  · have := Host.reduce_andi_all _ _ _ _ _ hw j
    exact finite_of_flag _ this
  · have l0 : (0 : ℤ) ≤ (i (ix2 t k)).toInt := IntOp.cmpi_sge.1 h0
    have l1 : (i (ix2 t k)).toInt < 64 := IntOp.cmpi_slt.1 h1
    refine ⟨⟨(i (ix2 t k)).toInt.toNat, by omega⟩, BitVec.eq_of_toInt_eq ?_⟩
    rw [BitVec.toInt_eq_toNat_of_lt (x := BitVec.ofNat 32 _)] <;> simp only [BitVec.toNat_ofNat] <;> omega

end Cert.Mixture

end
-- ==== Proof.Equal.lean ====
/-
# The value claim

Every device's result is its block of rows of the reference's result.
-/
module

public import proofs.«01_k».proof.Defs
public import proofs.«01_k».proof.Proof.Run
public import proofs.«01_k».proof.Proof.Arrays
public import proofs.«01_k».proof.Proof.Condition
public import proofs.«01_k».proof.Proof.Frames

@[expose] public section

set_option maxRecDepth 16384

noncomputable section

namespace Cert.Mixture

open Idealize.ShloMosaic Idealize.ShloMosaic.TcCoe Idealize.SL.Sem Cert.Exchange

/-- The result window's one block is the whole result array. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) : finalA m ρ c (4 : Fin 5) = outAt m ρ c := by
  have hz : (fun a => (Cert.KernelIdeal.win0_4.index (0 : Fin 1)) a * Cert.KernelIdeal.main_v1.ty.shape.size a) = fun _ => 0 :=
    funext fun a => by fin_cases a <;> decide
  rw [← finalA_out m ρ c]
  exact (Memref.read_access_unit_zero (Elt Ideal) Cert.KernelIdeal.main_v1 hz (fun a => by fin_cases a <;> decide) _).symm

/-- **The idealized kernel and the idealized reference compute the same rows.** -/
theorem algebraic : Cert.algebraic_KernelIdeal_ReferenceIdeal_pre_finite_in_range_KernelIdeal := by
  intro m ρ m' ρ' hpre hagree
  have hc := fun t k => condition_split _ _ _ _ (hpre 0) t k
  have hfX := (hc 0 0).1
  have hfW := (hc 0 0).2.1
  choose a ha using fun t => (hc t 0).2.2
  choose b hb using fun t => (hc t 1).2.2
  have hI : ∀ c : Dev Cert.KernelIdeal.nD, m (c.tc.loc Cert.KernelIdeal.main_arg2) = m ((0 : Dev Cert.KernelIdeal.nD).tc.loc Cert.KernelIdeal.main_arg2) :=
    fun c => (hagree c).2.2.1.trans (hagree 0).2.2.1.symm
  rw [(hagree 0).1] at hfX
  rw [(hagree 0).2.1] at hfW
  refine ⟨Cert.ReferenceIdeal.Value.res_main_v71 m' 0, ?_, (θ_run Cert.ReferenceIdeal.defs _ _).mono (fun _ h => h 0) (Cert.ReferenceIdeal.Value.run m' ρ')⟩
  refine (θ_run Cert.KernelIdeal.defs _ _).mono (fun _ h c => ⟨((h.1 c (4 : Fin 5)).trans (result_eq m ρ c)).trans ?_,
    (h.1 c (0 : Fin 5)).trans (finalA_in m ρ c 0 rfl), (h.1 c (1 : Fin 5)).trans (finalA_in m ρ c 1 rfl),
    (h.1 c (2 : Fin 5)).trans (finalA_in m ρ c 2 rfl), (h.1 c (3 : Fin 5)).trans (finalA_in m ρ c 3 rfl)⟩) (run_main m ρ)
  funext i
  obtain ⟨r, h, rfl⟩ : ∃ (r : Fin 32) (h : Fin 512), i = ix2 r h := ⟨i 0, i 1, funext fun z => by fin_cases z <;> rfl⟩
  have hk := outAt_at m ρ _ _ (m' ((0 : Dev Cert.ReferenceIdeal.nD).tc.loc Cert.ReferenceIdeal.main_arg3))
    (fun c => (hagree c).1) (fun c => (hagree c).2.1)
    (fun c l k h => (congrFun (hagree c).2.2.2 (ix3 l k h)).trans (congrArg (m' ((0 : Dev Cert.ReferenceIdeal.nD).tc.loc Cert.ReferenceIdeal.main_arg3))
      (funext fun z => Fin.ext (by
        fin_cases z
        · show c.val * 4 + l.val = 4 * c.val + l.val
          omega
        · rfl
        · rfl))))
    hfX hfW a b (fun c t => (congrFun (hI c) _).trans (ha t)) (fun c t => (congrFun (hI c) _).trans (hb t)) c r h
  refine hk.trans ?_
  have hr := refTerm_at (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg3))
    (word0 (m' ((0 : Dev Cert.ReferenceIdeal.nD).tc.loc Cert.ReferenceIdeal.main_arg2)))
    (word1 (m' ((0 : Dev Cert.ReferenceIdeal.nD).tc.loc Cert.ReferenceIdeal.main_arg2))) (row c r) h (a (row c r)) (b (row c r))
    ((word0_at _ _).trans ((congrFun (hagree 0).2.2.1 _).symm.trans (ha _)))
    ((word1_at _ _).trans ((congrFun (hagree 0).2.2.1 _).symm.trans (hb _)))
  refine hr.symm.trans ?_
  rw [← res_eq m' 0]
  refine congrArg (Cert.ReferenceIdeal.Value.res_main_v71 m' 0) (funext fun z => Fin.ext ?_)
  fin_cases z
  · show 32 * c.val + r.val = c.val * 32 + r.val
    omega
  · rfl

end Cert.Mixture

end
-- ==== Proof.lean ====
/-
# The claim

The conjuncts of `Cert.Claim`, each proved in a module of its own.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_in_range_KernelIdeal
public import proofs.«01_k».proof.Proof.Gen.Pre_finite_in_range_ReferenceIdeal
public import proofs.«01_k».proof.Proof.Frames
public import proofs.«01_k».proof.Proof.Equal

@[expose] public section

noncomputable section

namespace Cert.Proof

open Cert.Exchange Cert.Mixture

/-- The frames, the (empty) list of rewrites, and the value claim. -/
theorem claim : Cert.Claim :=
  ⟨Cert.Kernel.Gen.facts, Cert.KernelIdeal.Gen.facts, Cert.ReferenceIdeal.Gen.facts,
    Cert.Pre_finite_in_range_KernelIdeal.Gen.facts, Cert.Pre_finite_in_range_ReferenceIdeal.Gen.facts,
    frame_kernel, frame_kernelIdeal, frame_kernelIdeal_pre, frame_reference, frame_reference_pre, trivial, algebraic⟩

end Cert.Proof

end
